-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S6x512x2048 : Shape := ⟨3, ![6, 512, 2048]⟩
abbrev S6 : Shape := ⟨1, ![6]⟩
abbrev S_ : Shape := ⟨0, ![]⟩
abbrev S512x2048 : Shape := ⟨2, ![512, 2048]⟩
abbrev S1x512x2048 : Shape := ⟨3, ![1, 512, 2048]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S6x512x2048, .bf16⟩
  | .local _ .vmem, ⟨3, _⟩ => ⟨S6x512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_20 : BitVec 32 := 1#32
  let v37 : BitVec 32 := Scalar.muli v31 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_25 : BitVec 32 := 1#32
  let v43 : BitVec 32 := Scalar.muli v19 c1_i32_25
  let v44 : BitVec 32 := Scalar.addi v42 v43
  v44.toNat
def k0_off1 (d0 : Dev nD) (c4_i32_30 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v48 : BitVec 32 := Scalar.addi v8 c4_i32_30
  let c4_i32_31 : BitVec 32 := 4#32
  let c0_i32_32 : BitVec 32 := 0#32
  let v49 : BitVec 1 := Scalar.cmpi .eq c4_i32_31 c0_i32_32
  let c1_i32_33 : BitVec 32 := 1#32
  let v50 : BitVec 32 := Scalar.select v49 c1_i32_33 c4_i32_31
  let v51 : BitVec 32 := Scalar.remsi v48 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let c512_i32 : BitVec 32 := 512#32
  let v70 : BitVec 32 := Scalar.muli v58 c512_i32
  let v71 : Index := Scalar.indexCast v70
  let c0_43 : Index := 0#32
  ![v71.toNat, 0]
def k0_dev3 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v78 : BitVec 32 := Scalar.muli v2 c16_i32_51
  let v79 : BitVec 32 := Scalar.addi c0_i32_52 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v80 : BitVec 32 := Scalar.muli v5 c4_i32_53
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_54 : BitVec 32 := 1#32
  let v82 : BitVec 32 := Scalar.muli v19 c1_i32_54
  let v83 : BitVec 32 := Scalar.addi v81 v82
  v83.toNat
def k0_dev4 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v151 : BitVec 32 := Scalar.muli v2 c16_i32_109
  let v152 : BitVec 32 := Scalar.addi c0_i32_110 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v153 : BitVec 32 := Scalar.muli v5 c4_i32_111
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_112 : BitVec 32 := 1#32
  let v155 : BitVec 32 := Scalar.muli v19 c1_i32_112
  let v156 : BitVec 32 := Scalar.addi v154 v155
  v156.toNat
def k0_dev5 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v224 : BitVec 32 := Scalar.muli v2 c16_i32_167
  let v225 : BitVec 32 := Scalar.addi c0_i32_168 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v226 : BitVec 32 := Scalar.muli v5 c4_i32_169
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_170 : BitVec 32 := 1#32
  let v228 : BitVec 32 := Scalar.muli v19 c1_i32_170
  let v229 : BitVec 32 := Scalar.addi v227 v228
  v229.toNat
def k0_dev6 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_224 : BitVec 32 := 16#32
  let v297 : BitVec 32 := Scalar.muli v2 c16_i32_224
  let v298 : BitVec 32 := Scalar.addi c0_i32_225 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_226 : BitVec 32 := 4#32
  let v299 : BitVec 32 := Scalar.muli v5 c4_i32_226
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_227 : BitVec 32 := 1#32
  let v301 : BitVec 32 := Scalar.muli v19 c1_i32_227
  let v302 : BitVec 32 := Scalar.addi v300 v301
  v302.toNat
def k0_dev7 (d0 : Dev nD) : Nat :=
  let c0_i32_281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280 : BitVec 32 := 16#32
  let v365 : BitVec 32 := Scalar.muli v2 c16_i32_280
  let v366 : BitVec 32 := Scalar.addi c0_i32_281 v365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_282 : BitVec 32 := 4#32
  let v367 : BitVec 32 := Scalar.muli v5 c4_i32_282
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_283 : BitVec 32 := 1#32
  let v369 : BitVec 32 := Scalar.muli v19 c1_i32_283
  let v370 : BitVec 32 := Scalar.addi v368 v369
  v370.toNat
def k0_dev8 (d0 : Dev nD) : Nat :=
  let c0_i32_337 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_336 : BitVec 32 := 16#32
  let v433 : BitVec 32 := Scalar.muli v2 c16_i32_336
  let v434 : BitVec 32 := Scalar.addi c0_i32_337 v433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_338 : BitVec 32 := 4#32
  let v435 : BitVec 32 := Scalar.muli v5 c4_i32_338
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_339 : BitVec 32 := 1#32
  let v437 : BitVec 32 := Scalar.muli v19 c1_i32_339
  let v438 : BitVec 32 := Scalar.addi v436 v437
  v438.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S2048x32768, .bf16⟩
  | .hbm, ⟨2, _⟩ => ⟨S32768x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/-
# The kernel's body, step by step

The devices form rings of four along the last mesh axis: device `c` sits at `c % 4`, its successor `nxt c` and its
predecessor `prv c` share its other coordinates. The body is a handshake with both neighbours, a copy of the partial
product into the result's buffer, and six steps of one shape: send one row chunk to the successor, take the
predecessor's, and add it to (the first three steps) or put it in place of (the last three) another row chunk. This
module names the pieces of a step once, at any step number, and states that the printed body is their composition.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.RingProof

open Cert.KernelIdeal Cert.KernelIdeal.Gen

open Idealize.ShloMosaic Idealize.SL.Sem

variable {F : FTy → Type} [FloatOps F]

/-! ## The ring -/

set_option backward.proofsInPublic true in
/-- The device after `c` on its ring. -/
def nxt (c : Dev nD) : Dev nD := ⟨c.val - c.val % 4 + (c.val + 1) % 4, by have h : c.val < 32 := c.isLt; show _ < 32; omega⟩
set_option backward.proofsInPublic true in
/-- The device before `c` on its ring. -/
def prv (c : Dev nD) : Dev nD := ⟨c.val - c.val % 4 + (c.val + 3) % 4, by have h : c.val < 32 := c.isLt; show _ < 32; omega⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The step around the ring, as a permutation of the devices. -/
def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

/-- The device step `s` sends to, as the body computes it. -/
def target (c : Dev nD) : Fin 6 → Dev nD
  | 0 => ⟨k0_dev3 c, k0_dev3_lt c⟩
  | 1 => ⟨k0_dev4 c, k0_dev4_lt c⟩
  | 2 => ⟨k0_dev5 c, k0_dev5_lt c⟩
  | 3 => ⟨k0_dev6 c, k0_dev6_lt c⟩
  | 4 => ⟨k0_dev7 c, k0_dev7_lt c⟩
  | 5 => ⟨k0_dev8 c, k0_dev8_lt c⟩

/-- Every step sends to the successor. -/
theorem target_eq (c : Dev nD) (s : Fin 6) : target c s = nxt c := by revert c s; decide +kernel

/-! ## Buffers, slots, chunks -/

abbrev xM : Memref sig .tc .vmem S2048x2048 .f32 := Memref.whole cc0_stg0_0
abbrev oM : Memref sig .tc .vmem S2048x2048 .f32 := Memref.whole cc0_stg1_0
abbrev sM : Memref sig .tc .vmem S6x512x2048 .bf16 := Memref.whole cc0_scratch0
abbrev rM : Memref sig .tc .vmem S6x512x2048 .bf16 := Memref.whole cc0_scratch1

theorem slot_inb (s : Fin 6) : ∀ a, (![s.val, 0, 0] : Fin 3 → Nat) a + S1x512x2048.size a ≤ S6x512x2048.size a := by
  revert s; decide
theorem sem_inb (s : Fin 6) : ∀ a, (![s.val] : Fin 1 → Nat) a + S1.size a ≤ S6.size a := by revert s; decide

/-- Slot `s` of a six-slot buffer, as a rectangle. -/
abbrev slotRect (s : Fin 6) : Rect S6x512x2048 := Rect.unit (s := S6x512x2048) ![s.val, 0, 0] S1x512x2048.size (slot_inb s)

theorem slot_packed (s : Fin 6) : (slotRect s).PackedRows (EltTy.packing .bf16) := by revert s; decide
theorem slot_words (s : Fin 6) : (slotRect s).WholeWords (EltTy.packing .bf16) := by revert s; decide

/-- Slot `s` of the send buffer, of the receive buffer. -/
abbrev sSlot (s : Fin 6) : Memref sig .tc .vmem S512x2048 .bf16 := (sM.slice (slotRect s) (fun _ => rfl)).squeeze S512x2048 squeezes_S1x512x2048_S512x2048
abbrev rSlot (s : Fin 6) : Memref sig .tc .vmem S512x2048 .bf16 := (rM.slice (slotRect s) (fun _ => rfl)).squeeze S512x2048 squeezes_S1x512x2048_S512x2048

theorem sSlot_words (s : Fin 6) : (sSlot s).view.WordExact := ((Memref.isWhole_whole cc0_scratch0).wordExact_slice rfl _ (slot_words s)).reshape _ _
theorem rSlot_words (s : Fin 6) : (rSlot s).view.WordExact := ((Memref.isWhole_whole cc0_scratch1).wordExact_slice rfl _ (slot_words s)).reshape _ _

/-- The semaphore of step `s` on the sending side, on the receiving side. -/
abbrev sendS (s : Fin 6) : DmaSem sig := ((cc0_scratch2.slice (Rect.unit (s := S6) ![s.val] S1.size (sem_inb s))).squeeze S_ squeezes_S1_S_).sem
abbrev recvS (s : Fin 6) : DmaSem sig := ((cc0_scratch3.slice (Rect.unit (s := S6) ![s.val] S1.size (sem_inb s))).squeeze S_ squeezes_S1_S_).sem
/-- The runtime's barrier semaphore. -/
abbrev barS : Sem sig := (SemArray.scalar (sig.barrier 0 rfl) : Sems sig S_).sem

theorem sendS_eq (s : Fin 6) : sendS s = (⟨2 + s.val, by have := s.isLt; show _ < 14; omega⟩ : Fin 14) := by revert s; decide
theorem recvS_eq (s : Fin 6) : recvS s = (⟨8 + s.val, by have := s.isLt; show _ < 14; omega⟩ : Fin 14) := by revert s; decide

/-- The row chunk `r + 1` places after device `c`'s own, as a rectangle. -/
abbrev chunkRect (c : Dev nD) (r : Fin 5) : Rect S2048x2048 :=
  Rect.unit (s := S2048x2048) (k0_off1 c (BitVec.ofNat 32 (1 + r.val))) S512x2048.size (k0_off1_inb c r)

abbrev wholeRect : Rect S2048x2048 := Rect.unit (s := S2048x2048) ![0, 0] S2048x2048.size inb_S2048x2048_S2048x2048_0_0

/-! ## The pieces of a step -/

/-- The handshake: one unit to each neighbour's barrier semaphore, then a wait for two on the own one. -/
def handshake (p n : Dev nD) : Prog (TpuEff nD τ sig (Elt F) Λ₀ .tc) PUnit := do
  semSignalWord p barS 1#32
  semSignalWord n barS 1#32
  semWaitWord barS 2#32

/-- The partial product copied into the result's buffer. -/
def copyIn : Prog (TpuEff nD τ sig (Elt F) Λ₀ .tc) PUnit := do
  let v : Vec F S2048x2048 .f32 ← Prog.lift (.load xM wholeRect.toLoadRect (View.loadsAt_vmem h_S2048x2048))
  let _w : Vec F S2048x2048 .f32 ← Prog.lift (.load oM wholeRect.toLoadRect (View.loadsAt_vmem h_S2048x2048))
  Prog.lift (.store oM wholeRect (k0_pay1 v) Finset.univ (View.stores_vmem_bits_univ h_S2048x2048 rfl) (.inl rfl))

/-- Step `s`'s exchange: the chunk rounded into its slot, the slot sent to device `d`, both ends waited for. -/
def sendPart (c d : Dev nD) (s : Fin 6) (r : Fin 5) : Prog (TpuEff nD τ sig (Elt F) Λ₀ .tc) PUnit := do
  let v : Vec F S512x2048 .f32 ← Prog.lift (.load oM (chunkRect c r).toLoadRect (View.loadsAt_vmem h_S512x2048))
  let _w : Vec F S1x512x2048 .bf16 ← Prog.lift (.load sM (slotRect s).toLoadRect (View.loadsAt_vmem h_S1x512x2048))
  Prog.lift (.store sM (slotRect s) (k0_pay2 v) Finset.univ (View.stores_vmem h_S1x512x2048 ((Memref.isWhole_whole cc0_scratch0).storeExact_slice rfl _ (slot_packed s)) (fun _ => rfl)) (.inl rfl))
  Prog.lift (.enqueueDma (sSlot s) (.remote (Dev.tc d) (rSlot s) (.dma (sendS s))) (.dma (recvS s)) (sSlot_words s) (rSlot_words s) ⟨⟨rfl, Or.inl rfl⟩, trivial⟩)
  Prog.lift (.waitDma2 (sendS s) (rSlot s) (sSlot s) (rSlot_words s) (sSlot_words s))
  Prog.lift (.waitDma2 (recvS s) (sSlot s) (rSlot s) (sSlot_words s) (rSlot_words s))

/-- The received chunk added to a chunk of the result. -/
def addPart (c : Dev nD) (s : Fin 6) (r : Fin 5) : Prog (TpuEff nD τ sig (Elt F) Λ₀ .tc) PUnit := do
  let v : Vec F S512x2048 .f32 ← Prog.lift (.load oM (chunkRect c r).toLoadRect (View.loadsAt_vmem h_S512x2048))
  let w : Vec F S1x512x2048 .bf16 ← Prog.lift (.load rM (slotRect s).toLoadRect (View.loadsAt_vmem h_S1x512x2048))
  let _v : Vec F S512x2048 .f32 ← Prog.lift (.load oM (chunkRect c r).toLoadRect (View.loadsAt_vmem h_S512x2048))
  Prog.lift (.store oM (chunkRect c r) (k0_pay3 v w) Finset.univ (View.stores_vmem_bits_univ h_S512x2048 rfl) (.inl rfl))

/-- The received chunk put in place of a chunk of the result. -/
def setPart (c : Dev nD) (s : Fin 6) (r : Fin 5) : Prog (TpuEff nD τ sig (Elt F) Λ₀ .tc) PUnit := do
  let w : Vec F S1x512x2048 .bf16 ← Prog.lift (.load rM (slotRect s).toLoadRect (View.loadsAt_vmem h_S1x512x2048))
  let _v : Vec F S512x2048 .f32 ← Prog.lift (.load oM (chunkRect c r).toLoadRect (View.loadsAt_vmem h_S512x2048))
  Prog.lift (.store oM (chunkRect c r) (k0_pay9 w) Finset.univ (View.stores_vmem_bits_univ h_S512x2048 rfl) (.inl rfl))

/-- The body as the composition of its pieces. -/
def ringBody : Prog (TpuEff nD τ sig (Elt F) Λ₀ .tc) PUnit := do
  let c : Dev nD ← Prog.lift .deviceId
  handshake ⟨k0_dev1 c, k0_dev1_lt c⟩ ⟨k0_dev2 c, k0_dev2_lt c⟩
  copyIn
  sendPart c (target c 0) 0 3
  addPart c 0 2
  sendPart c (target c 1) 1 2
  addPart c 1 1
  sendPart c (target c 2) 2 1
  addPart c 2 0
  sendPart c (target c 3) 3 4
  setPart c 3 3
  sendPart c (target c 4) 4 3
  setPart c 4 2
  sendPart c (target c 5) 5 2
  setPart c 5 1

set_option maxRecDepth 65536 in
/-- The printed body is the composition of its pieces. -/
theorem body_eq : cc0_body (F := F) xM (Memref.isWhole_whole _) oM (Memref.isWhole_whole _) sM (Memref.isWhole_whole _) rM (Memref.isWhole_whole _) cc0_scratch2 cc0_scratch3
    = ringBody (F := F) := rfl

end Cert.RingProof

end
-- ==== Proof.Values.lean ====
/-
# What the steps compute

The result's buffer is four row chunks. `state X n c k` is chunk `k` of device `c`'s result after `n` steps, when device
`d`'s partial product is `X d`: a step replaces one chunk by a function of itself and of what the predecessor sent.
`chunkOf` reads a chunk off the buffer's contents; the lemmas say how the body's loads and stores act on chunks.
-/
module

public import proofs.«01_k».proof.Proof.Ring
public import Idealize.ShloMosaic.Lib.Pipeline.Value
public import Idealize.ShloMosaic.Lib.Ring

@[expose] public section

noncomputable section

namespace Cert.RingProof

open Cert.KernelIdeal Cert.KernelIdeal.Gen

open Idealize.ShloMosaic Idealize.SL.Sem

variable {F : FTy → Type} [FloatOps F]

/-! ## Chunks -/

/-- A row chunk's values, as held in the result's buffer. -/
abbrev Chunk (F : FTy → Type) := S512x2048.Idx → Elt F .f32
/-- A row chunk's values, as sent. -/
abbrev Packet (F : FTy → Type) := S512x2048.Idx → Elt F .bf16
/-- A whole partial product, or result. -/
abbrev Whole (F : FTy → Type) := S2048x2048.Idx → Elt F .f32

theorem row_inb (k : Fin 4) : ∀ a, (![512 * k.val, 0] : Fin 2 → Nat) a + S512x2048.size a ≤ S2048x2048.size a := by
  revert k; decide

/-- Row chunk `k`, as a rectangle. -/
abbrev rowRect (k : Fin 4) : Rect S2048x2048 := Rect.unit (s := S2048x2048) ![512 * k.val, 0] S512x2048.size (row_inb k)

/-- Chunk `k` of a buffer's contents. -/
def chunkOf (f : Whole F) (k : Fin 4) : Chunk F := fun j => f ((rowRect k).emb j)

/-- The chunk `r + 1` places after device `c`'s own. -/
def chunkIx (c : Dev nD) (r : Fin 5) : Fin 4 := ⟨(c.val + 1 + r.val) % 4, Nat.mod_lt _ (by decide)⟩

theorem chunk_off (c : Dev nD) (r : Fin 5) :
    k0_off1 c (BitVec.ofNat 32 (1 + r.val)) = ![512 * (chunkIx c r).val, 0] := by
  revert c r; decide +kernel

theorem unit_congr {s : Shape} {o o' : Fin s.rank → ℕ} {z : Fin s.rank → ℕ} (h : o = o') (i : ∀ a, o a + z a ≤ s.size a)
    (i' : ∀ a, o' a + z a ≤ s.size a) : Rect.unit o z i = Rect.unit o' z i' := by
  subst h; rfl

theorem chunkRect_eq (c : Dev nD) (r : Fin 5) : chunkRect c r = rowRect (chunkIx c r) := unit_congr (chunk_off c r) _ _

theorem row_disjoint (k k' : Fin 4) (h : k ≠ k') : Disjoint (rowRect k).set (rowRect k').set :=
  Ring.lead_disjoint (s := S2048x2048) (0 : Fin 2) 512 (fun k : Fin 4 => ![512 * k.val, 0]) S512x2048.size row_inb (fun _ => rfl)
    rfl k k' h

theorem row_cover : Finset.univ.biUnion (fun k : Fin 4 => (rowRect k).set) = Finset.univ :=
  Ring.lead_cover (s := S2048x2048) (0 : Fin 2) 512 (fun k : Fin 4 => ![512 * k.val, 0]) S512x2048.size row_inb (fun _ => rfl)
    (fun b a ha => by revert b a; decide) rfl (fun a ha => by revert a; decide) rfl

/-- Contents with equal chunks are equal. -/
theorem whole_ext {f g : Whole F} (h : ∀ k, chunkOf f k = chunkOf g k) : f = g := by
  funext i
  have hi : i ∈ Finset.univ.biUnion (fun k : Fin 4 => (rowRect k).set) := by rw [row_cover]; exact Finset.mem_univ i
  obtain ⟨k, -, hk⟩ := Finset.mem_biUnion.mp hi
  rw [← Rect.map_emb_univ] at hk
  obtain ⟨j, -, rfl⟩ := Finset.mem_map.mp hk
  exact congrFun (h k) j

/-- A load of a chunk off the result's buffer. -/
theorem load_chunk (c : Dev nD) (r : Fin 5) (f : Whole F) :
    oM.view.readAt (Elt F) (chunkRect c r).toLoadRect f = chunkOf f (chunkIx c r) := by
  funext j
  show f ((chunkRect c r).emb j) = f ((rowRect (chunkIx c r)).emb j)
  congr 1
  funext a
  apply Fin.ext
  show k0_off1 c (BitVec.ofNat 32 (1 + r.val)) a + 1 * (j a).val = (![512 * (chunkIx c r).val, 0] : Fin 2 → ℕ) a + 1 * (j a).val
  rw [chunk_off]

theorem chunkOf_read (f : Whole F) (k : Fin 4) : chunkOf f k = (oM.access (rowRect k)).read (Elt F) f := rfl

/-- The chunks after a store of one of them. -/
theorem chunkOf_write (k k' : Fin 4) (f : Whole F) (w : Chunk F) :
    chunkOf ((oM.access (rowRect k)).write (Elt F) f w Finset.univ) k' = Function.update (chunkOf f) k w k' := by
  by_cases h : k' = k
  · subst h
    rw [Function.update_self, chunkOf_read, View.read_write_univ]
  · rw [Function.update_of_ne h, chunkOf_read, chunkOf_read]
    exact View.read_slice_write_slice_of_disjoint (v := oM.view) (rowRect k') (rowRect k) f w Finset.univ
      (by
        rw [View.setOn_univ, View.set_slice_whole, View.set_slice_whole]
        exact row_disjoint k' k h)

/-- The same for a chunk named by the device's place and the distance from it. -/
theorem store_chunk (c : Dev nD) (r : Fin 5) (f : Whole F) (w : Chunk F) (k' : Fin 4) :
    chunkOf ((oM.access (chunkRect c r)).write (Elt F) f w Finset.univ) k' = Function.update (chunkOf f) (chunkIx c r) w k' := by
  have key : ∀ (o : Fin 2 → ℕ) (i : ∀ a, o a + S512x2048.size a ≤ S2048x2048.size a), o = ![512 * (chunkIx c r).val, 0] →
      (oM.access (Rect.unit (s := S2048x2048) o S512x2048.size i)).write (Elt F) f w Finset.univ
        = (oM.access (rowRect (chunkIx c r))).write (Elt F) f w Finset.univ := by
    intro o i h; subst h; rfl
  rw [show (oM.access (chunkRect c r)).write (Elt F) f w Finset.univ = _ from key _ _ (chunk_off c r)]
  exact chunkOf_write _ _ _ _

/-! ## The steps -/

/-- The chunk step `s` sends, and the one it updates, as distances from the device's own. -/
def sR : Fin 6 → Fin 5 := ![3, 2, 1, 4, 3, 2]
def rR : Fin 6 → Fin 5 := ![2, 1, 0, 3, 2, 1]

/-- A chunk rounded for sending, and widened back. -/
def pack (v : Chunk F) : Packet F := truncf (F := F) .bf16 v bitsLt_bf16_f32
def unpack (v : Packet F) : Chunk F := extf (F := F) .f32 v bitsLt_bf16_f32

/-- What device `c` sends at step `s`, of all devices' chunks. -/
def sentOf (s : Fin 6) (A : Dev nD → Fin 4 → Chunk F) (c : Dev nD) : Packet F := pack (A c (chunkIx c (sR s)))

/-- What step `s` puts into the updated chunk: the sum with the packet in the first three steps, the packet after. -/
def newChunk (s : Fin 6) (v : Chunk F) (p : Packet F) : Chunk F :=
  if s.val < 3 then addf (F := F) v (unpack p) else unpack p

/-- All devices' chunks after step `s`, of those before. -/
def advance (s : Fin 6) (A : Dev nD → Fin 4 → Chunk F) (c : Dev nD) : Fin 4 → Chunk F :=
  Function.update (A c) (chunkIx c (rR s)) (newChunk s (A c (chunkIx c (rR s))) (sentOf s A (prv c)))

/-- All devices' chunks after `n` steps. -/
def state (X : Dev nD → Whole F) : ℕ → Dev nD → Fin 4 → Chunk F
  | 0 => fun c => chunkOf (X c)
  | n + 1 => if h : n < 6 then advance ⟨n, h⟩ (state X n) else state X n

theorem state_succ (X : Dev nD → Whole F) (s : Fin 6) : state X (s.val + 1) = advance s (state X s.val) := dif_pos s.isLt

/-- What device `c` sends at step `s`. -/
def sent (X : Dev nD → Whole F) (s : Fin 6) (c : Dev nD) : Packet F := sentOf s (state X s.val) c

/-- The contents whose chunks are `A`. -/
def glue (A : Fin 4 → Chunk F) : Whole F := fun i =>
  A ⟨(i 0).val / 512, by have h : (i 0).val < 2048 := (i 0).isLt; omega⟩
    (Shape.pair (d := ![512, 2048]) ⟨(i 0).val % 512, Nat.mod_lt _ (by decide)⟩ (i 1))

theorem chunkOf_glue (A : Fin 4 → Chunk F) : chunkOf (glue A) = A := by
  funext k j
  have h0 : (j 0).val < 512 := (j 0).isLt
  have hk : k.val < 4 := k.isLt
  have e0 : ((rowRect k).emb j 0).val = 512 * k.val + 1 * (j 0).val := rfl
  have e1 : ((rowRect k).emb j 1).val = 0 + 1 * (j 1).val := rfl
  show A _ _ = A k j
  congr 1
  · refine Fin.ext ?_
    show ((rowRect k).emb j 0).val / 512 = k.val
    rw [e0]; omega
  · funext a
    fin_cases a
    · exact Fin.ext (by show ((rowRect k).emb j 0).val % 512 = (j 0).val; rw [e0]; omega)
    · exact Fin.ext (by show ((rowRect k).emb j 1).val = (j 1).val; rw [e1]; omega)

/-! ## The payloads of the body's stores -/

theorem pay1_eq (v : Whole F) : k0_pay1 (F := F) v = v := shapeCast_self _ _

theorem pay2_eq (v : Chunk F) : k0_pay2 (F := F) v = shapeCast S1x512x2048 (pack v) shapeCasts_S512x2048_S1x512x2048 := by
  show shapeCast _ (truncf .bf16 (shapeCast _ v _) _) _ = _
  rw [shapeCast_self]; rfl

theorem pay3_eq (v : Chunk F) (w : Vec F S1x512x2048 .bf16) :
    k0_pay3 (F := F) v w = addf (F := F) v (unpack (shapeCast S512x2048 w shapeCasts_S1x512x2048_S512x2048)) := by
  show addf (shapeCast _ v _) _ = _
  rw [shapeCast_self]; rfl

theorem pay9_eq (w : Vec F S1x512x2048 .bf16) :
    k0_pay9 (F := F) w = unpack (shapeCast S512x2048 w shapeCasts_S1x512x2048_S512x2048) := rfl

/-- A slot of the receive buffer, loaded and reshaped, is the slot's reading. -/
theorem load_slot (s : Fin 6) (f : S6x512x2048.Idx → Elt F .bf16) :
    shapeCast S512x2048 (rM.view.readAt (Elt F) (slotRect s).toLoadRect f) shapeCasts_S1x512x2048_S512x2048
      = (rSlot s).view.read (Elt F) f := rfl

/-- A slot of the send buffer after the store of a packet reads the packet. -/
theorem store_slot (s : Fin 6) (f : S6x512x2048.Idx → Elt F .bf16) (p : Packet F) :
    (sSlot s).view.read (Elt F) ((sM.access (slotRect s)).write (Elt F) f
      (shapeCast S1x512x2048 p shapeCasts_S512x2048_S1x512x2048) Finset.univ) = p := by
  have h : (sSlot s).view.read (Elt F) ((sM.access (slotRect s)).write (Elt F) f
      (shapeCast S1x512x2048 p shapeCasts_S512x2048_S1x512x2048) Finset.univ)
      = shapeCast S512x2048 ((sM.access (slotRect s)).read (Elt F) ((sM.access (slotRect s)).write (Elt F) f
      (shapeCast S1x512x2048 p shapeCasts_S512x2048_S1x512x2048) Finset.univ)) shapeCasts_S1x512x2048_S512x2048 := rfl
  rw [h, View.read_write_univ]
  exact shapeCast_shapeCast _ _ _

/-! ## The elements of a slot -/

/-- A slot's elements are its rectangle's. -/
theorem sSlot_set (s : Fin 6) : (sSlot s).view.set = (slotRect s).set :=
  (Memref.set_view_squeeze _ _).trans (View.set_slice_whole _ _)
theorem rSlot_set (s : Fin 6) : (rSlot s).view.set = (slotRect s).set :=
  (Memref.set_view_squeeze _ _).trans (View.set_slice_whole _ _)

theorem slot_disjoint (s s' : Fin 6) (h : s ≠ s') : Disjoint (slotRect s).set (slotRect s').set :=
  Ring.lead_disjoint (s := S6x512x2048) (0 : Fin 3) 1 (fun s : Fin 6 => ![s.val, 0, 0]) S1x512x2048.size slot_inb
    (fun b => (Nat.one_mul _).symm) rfl s s' h

theorem slot_cover : Finset.univ.biUnion (fun s : Fin 6 => (slotRect s).set) = Finset.univ :=
  Ring.lead_cover (s := S6x512x2048) (0 : Fin 3) 1 (fun s : Fin 6 => ![s.val, 0, 0]) S1x512x2048.size slot_inb
    (fun b => (Nat.one_mul _).symm) (fun b a ha => by revert b a; decide) rfl (fun a ha => by revert a; decide) rfl

end Cert.RingProof

end
-- ==== Proof.Sched.lean ====
/-
# The protocol

Every device has a barrier semaphore, six send and six receive semaphores. The barrier semaphore expects one unit from each
neighbour; the successor's unit brings the right to write its six receive slots. A send semaphore expects the credit of
one slot and gives the send slot back; a receive semaphore expects the credit of one slot and gives the receive slot back,
reading what the predecessor sent. `ringRd` states this; the lemmas read it off at each kind of semaphore, then give what a
device owes from each step on, and the levels that order the waits.
-/
module

public import proofs.«01_k».proof.Proof.Values
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → Whole F)

/-! ## Semaphores -/

abbrev barCell (c : Dev nD) : GSem nD τ sig := ((c : Thread nD τ), .reg barS)
abbrev sendCell (c : Dev nD) (s : Fin 6) : GSem nD τ sig := ((c : Thread nD τ), .dma (sendS s))
abbrev recvCell (c : Dev nD) (s : Fin 6) : GSem nD τ sig := ((c : Thread nD τ), .dma (recvS s))

/-- What a semaphore is for: 0 the barrier, 1 the staging of the operand and the result, 2 sending, 3 receiving. -/
def kindOf : SemLoc sig → Fin 4
  | .reg _ => 0
  | .dma q => if q.val < 2 then 1 else if q.val < 8 then 2 else 3
/-- The step a sending or receiving semaphore belongs to. -/
def stepOf : SemLoc sig → Fin 6
  | .reg _ => 0
  | .dma q => ⟨(q.val + 4) % 6, Nat.mod_lt _ (by decide)⟩

theorem kind_send (s : Fin 6) : kindOf (.dma (sendS s)) = 2 := by revert s; decide
theorem kind_recv (s : Fin 6) : kindOf (.dma (recvS s)) = 3 := by revert s; decide
theorem step_send (s : Fin 6) : stepOf (.dma (sendS s)) = s := by revert s; decide
theorem step_recv (s : Fin 6) : stepOf (.dma (recvS s)) = s := by revert s; decide

/-- The credit of one slot. -/
def N : ℕ := (rSlot 0).view.dmaCredit
theorem N_pos : 0 < N := View.dmaCredit_pos _ (by decide)
theorem N_recv (s : Fin 6) : (rSlot s).view.dmaCredit = N := rfl
theorem N_send (s : Fin 6) : (sSlot s).view.dmaCredit = N := rfl

/-! ## Slots held -/

/-- Device `c`'s send slot `s`, at the contents `f`; its receive slot `s`. -/
def sPts (c : Dev nD) (s : Fin 6) (f : S6x512x2048.Idx → Elt F .bf16) : sProp 𝕄 :=
  (sSlot s).view.loc (c : Thread nD τ) ↦[(sSlot s).view.set]{fullShare} f
def rPts (c : Dev nD) (s : Fin 6) (f : S6x512x2048.Idx → Elt F .bf16) : sProp 𝕄 :=
  (rSlot s).view.loc (c : Thread nD τ) ↦[(rSlot s).view.set]{fullShare} f
/-- The slots at some contents. -/
def sAny (c : Dev nD) (s : Fin 6) : sProp 𝕄 := iprop(∃ f : S6x512x2048.Idx → Elt F .bf16, sPts c s f)
def rAny (c : Dev nD) (s : Fin 6) : sProp 𝕄 := iprop(∃ f : S6x512x2048.Idx → Elt F .bf16, rPts c s f)
/-- The receive slot at contents that read `p`. -/
def rAt (c : Dev nD) (s : Fin 6) (p : Packet F) : sProp 𝕄 :=
  iprop(∃ f : S6x512x2048.Idx → Elt F .bf16, ⌜(rSlot s).view.read (Elt F) f = p⌝ ∗ rPts c s f)

instance sPts_storable (c : Dev nD) (s : Fin 6) (f) : BI.Storable (upEmb : UEmb _ 𝕄) (sPts (F := F) c s f) := by unfold sPts; infer_instance
instance rPts_storable (c : Dev nD) (s : Fin 6) (f) : BI.Storable (upEmb : UEmb _ 𝕄) (rPts (F := F) c s f) := by unfold rPts; infer_instance
instance sAny_storable (c : Dev nD) (s : Fin 6) : BI.Storable (upEmb : UEmb _ 𝕄) (sAny (F := F) c s) := by unfold sAny; infer_instance
instance rAny_storable (c : Dev nD) (s : Fin 6) : BI.Storable (upEmb : UEmb _ 𝕄) (rAny (F := F) c s) := by unfold rAny; infer_instance
instance rAt_storable (c : Dev nD) (s : Fin 6) (p : Packet F) : BI.Storable (upEmb : UEmb _ 𝕄) (rAt (F := F) c s p) := by unfold rAt; infer_instance

/-! ## The schedule -/

/-- What the successor's unit on `c`'s barrier semaphore brings for step `s`: the successor's receive slot, and that its
    receive semaphore is at its first round. -/
def lend (c : Dev nD) (s : Fin 6) : sProp 𝕄 := iprop(rAny (F := F) (nxt c) s ∗ reached ER (recvCell (nxt c) s) 0)
def barPay (c : Dev nD) : sProp 𝕄 := bigSep Finset.univ (fun s => lend (F := F) c s)

instance lend_storable (c : Dev nD) (s : Fin 6) : BI.Storable (upEmb : UEmb _ 𝕄) (lend (F := F) c s) := by unfold lend; infer_instance
instance barPay_storable (c : Dev nD) : BI.Storable (upEmb : UEmb _ 𝕄) (barPay (F := F) c) := by unfold barPay; infer_instance

/-- One round. On a barrier semaphore the duties `false` (the predecessor's) and `true` (the successor's), of one unit; on a
    sending or receiving semaphore the duty `false` of a slot's credit. -/
def ringRd : Rounds.Schedule (GSem nD τ sig) Bool 𝕄 where
  duties g r := if r = 0 ∧ g.1.2 = .tc then (if kindOf g.2 = 0 then Finset.univ else if kindOf g.2 = 1 then ∅ else {false}) else ∅
  unitless _ := False
  amount g _ _ := if kindOf g.2 = 0 then 1 else N
  payload g _ d :=
    if kindOf g.2 = 0 then (if d then barPay g.1.1 else iprop(emp))
    else if kindOf g.2 = 2 then sAny g.1.1 (stepOf g.2)
    else rAt g.1.1 (stepOf g.2) (sent X (stepOf g.2) (prv g.1.1))
  amount_pos g _ _ _ := by
    by_cases h : kindOf g.2 = 0
    · rw [if_pos h]; exact Nat.one_pos
    · rw [if_neg h]; exact N_pos

instance ringRd_payload_storable (g : GSem nD τ sig) (r : ℕ) (d : Bool) :
    BI.Storable (upEmb : UEmb _ 𝕄) ((ringRd X).payload g r d) := by
  show BI.Storable upEmb (if kindOf g.2 = 0 then (if d then barPay g.1.1 else iprop(emp))
    else if kindOf g.2 = 2 then sAny g.1.1 (stepOf g.2) else rAt g.1.1 (stepOf g.2) (sent X (stepOf g.2) (prv g.1.1)))
  (repeat' split) <;> infer_instance

section Sched
variable (c : Dev nD) (s : Fin 6)

theorem duties_bar : (ringRd X).duties (barCell c) 0 = Finset.univ := by
  dsimp only [ringRd]; rw [if_pos ⟨rfl, rfl⟩]; exact if_pos rfl
theorem duties_send : (ringRd X).duties (sendCell c s) 0 = {false} := by
  dsimp only [ringRd]; rw [if_pos ⟨rfl, rfl⟩, kind_send]; rfl
theorem duties_recv : (ringRd X).duties (recvCell c s) 0 = {false} := by
  dsimp only [ringRd]; rw [if_pos ⟨rfl, rfl⟩, kind_recv]; rfl
theorem duties_later (g : GSem nD τ sig) : ∀ r, 1 ≤ r → (ringRd X).duties g r = ∅ :=
  fun r hr => by dsimp only [ringRd]; rw [if_neg fun h => by omega]

theorem amount_bar (d : Bool) : (ringRd X).amount (barCell c) 0 d = 1 := by dsimp only [ringRd]; exact if_pos rfl
theorem amount_send (d : Bool) : (ringRd X).amount (sendCell c s) 0 d = N := by dsimp only [ringRd]; rw [kind_send]; rfl
theorem amount_recv (d : Bool) : (ringRd X).amount (recvCell c s) 0 d = N := by dsimp only [ringRd]; rw [kind_recv]; rfl

theorem expect_bar : (ringRd X).expect (barCell c) 0 = 2 := by
  unfold Schedule.expect Schedule.amountOf
  rw [duties_bar, Finset.sum_congr rfl fun d _ => amount_bar X c d, Finset.sum_const, Finset.card_univ, Fintype.card_bool, smul_eq_mul]
theorem expect_send : (ringRd X).expect (sendCell c s) 0 = N := by
  unfold Schedule.expect Schedule.amountOf; rw [duties_send, Finset.sum_singleton, amount_send]
theorem expect_recv : (ringRd X).expect (recvCell c s) 0 = N := by
  unfold Schedule.expect Schedule.amountOf; rw [duties_recv, Finset.sum_singleton, amount_recv]

theorem payload_bar_true : (ringRd X).payload (barCell c) 0 true = barPay c := by dsimp only [ringRd]; exact (if_pos rfl).trans (if_pos rfl)
theorem payload_bar_false : (ringRd X).payload (barCell c) 0 false = iprop(emp) := by
  dsimp only [ringRd]; exact (if_pos rfl).trans (if_neg Bool.false_ne_true)
theorem payload_send (d : Bool) : (ringRd X).payload (sendCell c s) 0 d = sAny c s := by
  dsimp only [ringRd]; rw [kind_send, step_send]; rfl
theorem payload_recv (d : Bool) : (ringRd X).payload (recvCell c s) 0 d = rAt c s (sent X s (prv c)) := by
  dsimp only [ringRd]; rw [kind_recv, step_recv]; rfl

theorem rest_bar : bigSep ((ringRd X).duties (barCell c) 0 \ ∅) (fun d => (ringRd X).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd X).duties (sendCell c s) 0 \ ∅) (fun d => (ringRd X).payload (sendCell c s) 0 d) = sAny c s := by
  rw [Finset.sdiff_empty, duties_send, bigSep_singleton, payload_send]
theorem rest_recv : bigSep ((ringRd X).duties (recvCell c s) 0 \ ∅) (fun d => (ringRd X).payload (recvCell c s) 0 d) = rAt c s (sent X s (prv c)) := by
  rw [Finset.sdiff_empty, duties_recv, bigSep_singleton, payload_recv]

end Sched

/-- A semaphore whose round is over is at zero, and its counter is the device's again. -/
theorem close (κ : ℕ) (g : GSem nD τ sig) :
    iprop(cellInv ER (ringRd X) κ g ∗ atPos ER g (0 + 1) ∅ 0) ⊢ (|={Set.univ}=> semVal g 0 : sProp 𝕄) :=
  Rounds.cell_close ER (ringRd X) (Set.mem_univ κ) id (duties_later X g)

/-! ## What is owed, and the levels -/

/-- What device `c` still owes its successor's receive semaphores before step `n`. -/
def owedFrom (c : Dev nD) (n : ℕ) : CellTallies nD τ sig Unit :=
  ∑ t ∈ Finset.univ.filter (fun t : Fin 6 => n ≤ t.val), tallyAt (recvCell (nxt c) t) () N

theorem owedFrom_step (c : Dev nD) (s : Fin 6) :
    owedFrom c s.val = owedFrom c (s.val + 1) + tallyAt (recvCell (nxt c) s) () N := by
  unfold owedFrom
  have h : Finset.univ.filter (fun t : Fin 6 => s.val ≤ t.val) = insert s (Finset.univ.filter (fun t : Fin 6 => s.val + 1 ≤ t.val)) := by
    revert s; decide
  rw [h, Finset.sum_insert (by simp), add_comm]

theorem owedFrom_end (c : Dev nD) : owedFrom c 6 = 0 := by
  unfold owedFrom
  rw [show Finset.univ.filter (fun t : Fin 6 => 6 ≤ t.val) = ∅ from by decide, Finset.sum_empty]

/-- What device `c` owes at launch: that, and a unit to each neighbour's barrier semaphore. -/
def O₀ (c : Dev nD) : CellTallies nD τ sig Unit :=
  owedFrom c 0 + tallyAt (barCell (nxt c)) () 1 + tallyAt (barCell (prv c)) () 1

theorem tally_pos {g g' : GSem nD τ sig} {n : ℕ} {u : Unit} (h : 0 < tallyAt (Ix := Unit) g' () n g u) : g = g' := by
  rw [tallyAt_apply] at h
  by_contra hn
  rw [if_neg fun h' => hn h'.1] at h
  exact Nat.lt_irrefl 0 h

theorem owedFrom_pos {c : Dev nD} {n : ℕ} {g : GSem nD τ sig} {u : Unit} (h : 0 < owedFrom c n g u) :
    ∃ t : Fin 6, n ≤ t.val ∧ g = recvCell (nxt c) t := by
  unfold owedFrom at h
  rw [Finset.sum_apply, Finsupp.finset_sum_apply] at h
  obtain ⟨t, ht, hp⟩ := Finset.exists_ne_zero_of_sum_ne_zero (Nat.pos_iff_ne_zero.mp h)
  exact ⟨t, (Finset.mem_filter.mp ht).2, tally_pos (Nat.pos_of_ne_zero hp)⟩

theorem O₀_pos {c : Dev nD} {g : GSem nD τ sig} {u : Unit} (h : 0 < O₀ c g u) :
    (∃ t : Fin 6, g = recvCell (nxt c) t) ∨ g = barCell (nxt c) ∨ g = barCell (prv c) := by
  unfold O₀ at h
  rw [Pi.add_apply, Finsupp.add_apply, Pi.add_apply, Finsupp.add_apply] at h
  rcases Nat.eq_zero_or_pos (owedFrom c 0 g u) with h0 | h0
  · rcases Nat.eq_zero_or_pos (tallyAt (Ix := Unit) (barCell (nxt c)) () 1 g u) with h1 | h1
    · rw [h0, h1, Nat.zero_add] at h; exact .inr (.inr (tally_pos h))
    · exact .inr (.inl (tally_pos h1))
  · obtain ⟨t, -, ht⟩ := owedFrom_pos h0; exact .inl ⟨t, ht⟩

def L (g : GSem nD τ sig) : Finset Unit := if g.1.2 = .tc then {()} else ∅
/-- The barrier at 1, the receive semaphore of step `s` at `2 + s`, everything else at 0. -/
def lv (g : GSem nD τ sig) (_ : Unit) : ℕ := if kindOf g.2 = 0 then 1 else if kindOf g.2 = 3 then 2 + (stepOf g.2).val else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_send (c : Dev nD) (s : Fin 6) : lv (sendCell c s) () = 0 := by unfold lv; rw [kind_send]; rfl
theorem lv_recv (c : Dev nD) (s : Fin 6) : lv (recvCell c s) () = 2 + s.val := by unfold lv; rw [kind_recv, step_recv]; rfl

/-- A device may wait on a semaphore below everything it owes. -/
theorem mayWait (c : Dev nD) (sm : SemLoc sig) (O : CellTallies nD τ sig Unit)
    (h : ∀ g, 0 < O g () → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g hg).1]; exact Finset.mem_singleton_self _)
    (fun p hp => by rw [Finset.mem_singleton.mp hp])
    (fun g u hg => (h g hg).2)

theorem mayWait_bar (c : Dev nD) : (levAts L lv : sProp 𝕄) ⊢ MayWait (c : Thread nD τ) (.reg barS) () (owedFrom c 0) :=
  mayWait c _ _ fun g hg => by
    obtain ⟨t, -, rfl⟩ := owedFrom_pos hg
    rw [lv_recv, show lv ((c : Thread nD τ), SemLoc.reg barS) () = 1 from rfl]; exact ⟨rfl, by omega⟩
theorem mayWait_send (c : Dev nD) (s : Fin 6) :
    (levAts L lv : sProp 𝕄) ⊢ MayWait (c : Thread nD τ) (.dma (sendS s)) () (owedFrom c (s.val + 1)) :=
  mayWait c _ _ fun g hg => by
    obtain ⟨t, -, rfl⟩ := owedFrom_pos hg
    rw [lv_recv, lv_send]; exact ⟨rfl, by omega⟩
theorem mayWait_recv (c : Dev nD) (s : Fin 6) :
    (levAts L lv : sProp 𝕄) ⊢ MayWait (c : Thread nD τ) (.dma (recvS s)) () (owedFrom c (s.val + 1)) :=
  mayWait c _ _ fun g hg => by
    obtain ⟨t, ht, rfl⟩ := owedFrom_pos hg
    rw [lv_recv, lv_recv]; exact ⟨rfl, by omega⟩
/-- The staging semaphores' waits, whatever of the launch's debts is still owed. -/
theorem mayWait_stage (c : Dev nD) (q : DmaSem sig) (hq : kindOf (.dma q) = 1) (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by unfold lv; rw [hq]; rfl
  rcases hO with rfl | rfl
  · refine mayWait c _ _ fun g hg => ?_
    rw [h0]
    rcases O₀_pos hg with ⟨t, rfl⟩ | rfl | rfl
    · rw [lv_recv]; exact ⟨rfl, by omega⟩
    · rw [lv_bar]; exact ⟨rfl, by omega⟩
    · rw [lv_bar]; exact ⟨rfl, by omega⟩
  · rw [MayWait_zero]; iintro -; iempintro

end Cert.RingProof

end
-- ==== Proof.Body.lean ====
/-
# The body, run

Each piece of the body, at any device and any step, from what it needs to what it leaves; then the whole body: a device that
starts with its partial product in the operand's buffer ends with `state X 6` in the result's, owing nothing, every
semaphore of the protocol back in its hands at zero.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Whole F) (K : GSem nD τ sig → ℕ)

abbrev 𝒱₀ : Variants := Variants.none

/-! ## Buffers held -/

/-- A whole buffer of device `c`, at `f`. -/
abbrev pt (c : Dev nD) (b : Ref sig .tc) (f : b.ty.Contents (Elt F)) : sProp 𝕄 := ((c : Thread nD τ).loc b) ↦{fullShare} f

/-- The result's buffer, its chunks being `A`. -/
def outIs (c : Dev nD) (A : Fin 4 → Chunk F) : sProp 𝕄 := iprop(∃ f : Whole F, ⌜chunkOf f = A⌝ ∗ pt c cc0_stg1_0 f)

theorem sSlot_on (s : Fin 6) : (sM.access (slotRect s)).setOn Finset.univ ⊆ (sSlot s).view.set := by
  rw [sSlot_set, View.setOn_univ, View.set_slice_whole]
theorem sSlot_load (s : Fin 6) : sM.view.setOn (slotRect s).toLoadRect.set ⊆ (sSlot s).view.set := by
  rw [sSlot_set]
  intro i hi
  obtain ⟨j, hj, rfl⟩ := Finset.mem_map.mp hi
  exact hj
theorem rSlot_load (s : Fin 6) : rM.view.setOn (slotRect s).toLoadRect.set ⊆ (rSlot s).view.set := by
  rw [rSlot_set]
  intro i hi
  obtain ⟨j, hj, rfl⟩ := Finset.mem_map.mp hi
  exact hj

/-! ## One step -/

/-- The invariants step `s` opens: the own sending and receiving semaphore's, and the successor's receiving one's. -/
def stepInv (c : Dev nD) (s : Fin 6) : sProp 𝕄 :=
  iprop(cellInv ER (ringRd X) (K (sendCell c s)) (sendCell c s) ∗ cellInv ER (ringRd X) (K (recvCell c s)) (recvCell c s)
    ∗ cellInv ER (ringRd X) (K (recvCell (nxt c) s)) (recvCell (nxt c) s))
instance stepInv_persistent (c : Dev nD) (s : Fin 6) : BI.Persistent (stepInv X K c s) := by unfold stepInv; infer_instance

/-- Step `s`'s own ghost state: the invariants, the device's places, the two duties it pays, the credit it waits with. -/
def stepGhost (c : Dev nD) (s : Fin 6) : sProp 𝕄 :=
  iprop(stepInv X K c s ∗ (atPos ER (sendCell c s) 0 ∅ 0 ∗ atPos ER (recvCell c s) 0 ∅ 0)
    ∗ (dutyTok ER (sendCell c s) 0 false ∗ dutyTok ER (recvCell (nxt c) s) 0 false)
    ∗ reached ER (sendCell c s) 0 ∗ cred (tallyAt (recvCell c s) () N))

/-- What step `s` starts from: that, its send slot, and the successor's receive slot. -/
def stepPre (c : Dev nD) (s : Fin 6) : sProp 𝕄 := iprop(stepGhost X K c s ∗ sAny (F := F) c s ∗ lend (F := F) c s)
/-- What it leaves: both semaphores at zero and both own slots. -/
def stepPost (c : Dev nD) (s : Fin 6) : sProp 𝕄 :=
  iprop((semVal (sendCell c s) 0 ∗ semVal (recvCell c s) 0) ∗ sAny (F := F) c s ∗ rAny (F := F) c s)

/-- Between the exchange and the update: the receive slot reads what the predecessor sent. -/
def stepMid (c : Dev nD) (s : Fin 6) : sProp 𝕄 :=
  iprop((semVal (sendCell c s) 0 ∗ semVal (recvCell c s) 0) ∗ sAny (F := F) c s ∗ rAt c s (sent X s (prv c)))

/-- What a transfer leaves in a receive slot reads as the send slot did. -/
theorem landed (c : Dev nD) (s : Fin 6) (fd fs : S6x512x2048.Idx → Elt F .bf16) (p : Packet F) (h : (sSlot s).view.read (Elt F) fs = p) :
    ((rSlot s).view.loc (c : Thread nD τ) ↦[(rSlot s).view.set]{fullShare}
      ((rSlot s).view.write (Elt F) fd ((sSlot s).view.read (Elt F) fs) Finset.univ) : sProp 𝕄) ⊢ rAt c s p := by
  unfold rAt rPts
  iintro H
  iexists ((rSlot s).view.write (Elt F) fd ((sSlot s).view.read (Elt F) fs) Finset.univ)
  isplitr; · ipureintro; exact (View.read_write_univ _ _).trans h
  iexact H

theorem lent (c : Dev nD) (s : Fin 6) (f : S6x512x2048.Idx → Elt F .bf16) :
    ((sSlot s).view.loc (c : Thread nD τ) ↦[(sSlot s).view.set]{fullShare} f : sProp 𝕄) ⊢ sAny c s := by
  unfold sAny sPts; iintro H; iexists f; iexact H

/-- A send slot after the store of a loaded chunk reads as the rounded chunk. -/
abbrev filled (c : Dev nD) (s : Fin 6) (r : Fin 5) (f : Whole F) (g : S6x512x2048.Idx → Elt F .bf16) : S6x512x2048.Idx → Elt F .bf16 :=
  (sM.access (slotRect s)).write (Elt F) g (k0_pay2 (oM.view.readAt (Elt F) (chunkRect c r).toLoadRect f)) Finset.univ
theorem filled_read (c : Dev nD) (s : Fin 6) (r : Fin 5) (f : Whole F) (g : S6x512x2048.Idx → Elt F .bf16) :
    (sSlot s).view.read (Elt F) (filled c s r f g) = pack (chunkOf f (chunkIx c r)) := by
  unfold filled; rw [pay2_eq, store_slot, load_chunk]

/-- The result's buffer after the store of chunk `w`. -/
abbrev stored (c : Dev nD) (r : Fin 5) (f : Whole F) (w : Chunk F) : Whole F :=
  (oM.access (chunkRect c r)).write (Elt F) f w Finset.univ
theorem stored_chunks (c : Dev nD) (r : Fin 5) (f : Whole F) (w : Chunk F) :
    chunkOf (stored c r f w) = Function.update (chunkOf f) (chunkIx c r) w := funext fun k => store_chunk c r f w k

theorem added (c : Dev nD) (s : Fin 6) (r : Fin 5) (f : Whole F) (g : S6x512x2048.Idx → Elt F .bf16) :
    k0_pay3 (oM.view.readAt (Elt F) (chunkRect c r).toLoadRect f) (rM.view.readAt (Elt F) (slotRect s).toLoadRect g)
      = addf (F := F) (chunkOf f (chunkIx c r)) (unpack ((rSlot s).view.read (Elt F) g)) := by
  rw [pay3_eq, load_slot, load_chunk]
theorem placed (s : Fin 6) (g : S6x512x2048.Idx → Elt F .bf16) :
    k0_pay9 (rM.view.readAt (Elt F) (slotRect s).toLoadRect g) = unpack ((rSlot s).view.read (Elt F) g) := by
  rw [pay9_eq, load_slot]

/-- The transfer of step `s`. -/
theorem wp_send_step (c : Dev nD) (s : Fin 6) {hsc : (rSlot s : Memref sig (Dev.tc (nxt c) : Thread nD τ).2.kind .vmem S512x2048 .bf16).view.ref.isScScratch = false}
    {hsrc : (sSlot s).view.WordExact} {hdst : (rSlot s).view.WordExact}
    {hsem : DmaTarget.Typed .vmem (.dma (recvS s)) (.remote (Dev.tc (nxt c) : Thread nD τ) (rSlot s : Memref sig (Dev.tc (nxt c) : Thread nD τ).2.kind .vmem S512x2048 .bf16) (.dma (sendS s)) hsc)}
    {Q : PUnit → sProp 𝕄} {k : PUnit → Prog (TpuEff nD τ sig (Elt F) Λ₀ .tc) PUnit}
    (fs fn : S6x512x2048.Idx → Elt F .bf16) (hfs : (sSlot s).view.read (Elt F) fs = sent X s c) (W : Waits sig Unit) :
    iprop(stepInv X K c s ∗ sPts c s fs ∗ rPts (nxt c) s fn ∗ owes (c : Thread nD τ) (owedFrom c s.val) W
        ∗ dutyTok ER (sendCell c s) 0 false ∗ reached ER (sendCell c s) 0
        ∗ dutyTok ER (recvCell (nxt c) s) 0 false ∗ reached ER (recvCell (nxt c) s) 0)
      ⊢ iprop(((cred (tallyAt (sendCell c s) () N) ∗ owes (c : Thread nD τ) (owedFrom c (s.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot s) (.remote (Dev.tc (nxt c) : Thread nD τ) (rSlot s) (.dma (sendS s)) hsc) (.dma (recvS s)) hsrc hdst hsem) k) Q) := by
  unfold sPts rPts stepInv
  iintro ⟨⟨#H1, #H2, #H3⟩, Hs, Hr, HO, Hd1, Hr1, Hd2, Hr2⟩
  iapply (Rounds.wp_send_pointsTo 𝒱₀ ER (ringRd X) (c : Thread nD τ) none (c' := (nxt c : Thread nD τ)) (src := sSlot s) (dst := rSlot s)
    (sS := .dma (sendS s)) (sem := .dma (recvS s)) (q := fullShare) (fs := fs) (κ₁ := K (sendCell c s)) (κ₂ := K (recvCell (nxt c) s)) (r₁ := 0) (r₂ := 0) (d₁ := false) (d₂ := false) (fd := fn)
    (by rw [duties_send]; exact Finset.mem_singleton_self _) (by rw [duties_recv]; exact Finset.mem_singleton_self _)
    () () N (N_recv s) (amount_send X c s false) (amount_recv X (nxt c) s false) (owedFrom c (s.val + 1)) (owedFrom_step c s) (W := W)
    (by rw [payload_send]; exact lent c s fs)
    (by rw [payload_recv, prv_nxt]; exact landed (nxt c) s fn fs _ hfs))
  isplitr; · iexact H1
  isplitr; · iexact H3
  isplitl [Hs]; · iexact Hs
  isplitl [Hr]; · iexact Hr
  isplitl [HO]; · iexact HO
  isplitl [Hd1]; · iexact Hd1
  isplitl [Hr1]; · iexact Hr1
  isplitl [Hd2]; · iexact Hd2
  iexact Hr2

/-- The exchange of step `s`. -/
theorem wp_sendPart (c : Dev nD) (s : Fin 6) (W : Waits sig Unit) (Q : PUnit → sProp 𝕄) :
    iprop(stepPre X K c s ∗ levAts L lv ∗ outIs c (state X s.val c) ∗ owes (c : Thread nD τ) (owedFrom c s.val) W
        ∗ ((stepMid X c s ∗ outIs c (state X s.val c) ∗ ∃ W, owes (c : Thread nD τ) (owedFrom c (s.val + 1)) W) -∗ Q ⟨⟩))
      ⊢ wp frame (wpE (defs₀ (F := F)) 𝒱₀ (c : Thread nD τ) none) Set.univ (sendPart c (target c s) s (sR s)) Q := by
  rw [target_eq]
  unfold sendPart
  simp only [Prog.lift, Prog.bind_op, Prog.bind_ret, Prog.pure_eq_ret]
  unfold stepPre stepGhost outIs sAny lend rAny
  iintro ⟨⟨⟨#HI, ⟨HatS, HatV⟩, ⟨HtS, HtV⟩, #HrS, HcV⟩, ⟨%fs, Hs⟩, ⟨⟨%fn, HN⟩, #HrN⟩⟩, #Hlev, ⟨%f, %hf, Hout⟩, HO, Hk⟩
  iapply (wp_load 𝒱₀ (c : Thread nD τ) none Set.univ (m := oM) (Finset.subset_univ _)) $$ Hout; iintro Hout
  unfold sPts
  iapply (wp_load 𝒱₀ (c : Thread nD τ) none Set.univ (m := sM) (sSlot_load s)) $$ Hs; iintro Hs
  iapply (wp_store 𝒱₀ (c : Thread nD τ) none Set.univ (m := sM) (r := slotRect s) (Mk := Finset.univ) (sSlot_on s)) $$ Hs; iintro Hs
  iapply (wp_send_step X K c s (filled c s (sR s) f fs) fn ((filled_read c s (sR s) f fs).trans (by unfold sent sentOf; rw [← hf])) W) $$ [Hs HN HO HtS HtV]
  · isplitr; · iexact HI
    isplitl [Hs]; · unfold sPts; iexact Hs
    isplitl [HN]; · iexact HN
    isplitl [HO]; · iexact HO
    isplitl [HtS]; · iexact HtS
    isplitr; · iexact HrS
    isplitl [HtV]; · iexact HtV
    iexact HrN
  iintro ⟨HcS, HO⟩
  unfold stepInv
  icases HI with ⟨#HIs, #HIv, -⟩
  iapply (Rounds.wp_wait_rest_token 𝒱₀ ER (ringRd X) (c : Thread nD τ) none (κ := K (sendCell c s))
      (wpE_waitDma2_eq (src := rSlot s) (dst := sSlot s) 𝒱₀ (c : Thread nD τ) none Set.univ) (Set.mem_univ _) () (O := owedFrom c (s.val + 1)) (W := W) (R := 0) (m := 0) (T := ∅)
      ((Nat.zero_add _).trans ((N_send s).trans (expect_send X c s).symm))) $$ [HcS HO HatS]
  · isplitr; · iexact HIs
    isplitl [HcS]; · iexact HcS
    isplitl [HO]; · iexact HO
    isplitr; · iapply (mayWait_send c s); iexact Hlev
    iexact HatS
  iintro ⟨HO, HatS, -, Hpay⟩
  ihave Hs := (Entails.of_eq (rest_send X c s)) $$ Hpay
  iapply (Rounds.wp_wait_rest_token 𝒱₀ ER (ringRd X) (c : Thread nD τ) none (κ := K (recvCell c s))
      (wpE_waitDma2_eq (src := sSlot s) (dst := rSlot s) 𝒱₀ (c : Thread nD τ) none Set.univ) (Set.mem_univ _) () (O := owedFrom c (s.val + 1))
      (W := insert (SemLoc.dma (sendS s), ()) W) (R := 0) (m := 0) (T := ∅)
      ((Nat.zero_add _).trans ((N_recv s).trans (expect_recv X c s).symm))) $$ [HcV HO HatV]
  · isplitr; · iexact HIv
    isplitl [HcV]; · iexact HcV
    isplitl [HO]; · iexact HO
    isplitr; · iapply (mayWait_recv c s); iexact Hlev
    iexact HatV
  iintro ⟨HO, HatV, -, Hpay⟩
  ihave Hr := (Entails.of_eq (rest_recv X c s)) $$ Hpay
  rw [wp_ret]
  imod (close X (K (sendCell c s)) (sendCell c s)) $$ [HatS] with HzS
  · isplitr; · iexact HIs
    iexact HatS
  imod (close X (K (recvCell c s)) (recvCell c s)) $$ [HatV] with HzV
  · isplitr; · iexact HIv
    iexact HatV
  imodintro
  iapply Hk
  unfold stepMid
  isplitl [HzS HzV Hs Hr]
  · isplitl [HzS HzV]; · isplitl [HzS] <;> iassumption
    isplitl [Hs] <;> iassumption
  isplitl [Hout]
  · iexists f; isplitr; · ipureintro; exact hf
    iexact Hout
  iexists _; iexact HO

/-- The received packet added to a chunk. -/
theorem wp_addPart (c : Dev nD) (s : Fin 6) (r : Fin 5) (A : Fin 4 → Chunk F) (p : Packet F) (Q : PUnit → sProp 𝕄) :
    iprop(rAt c s p ∗ outIs c A
        ∗ ((rAny (F := F) c s ∗ outIs c (Function.update A (chunkIx c r) (addf (F := F) (A (chunkIx c r)) (unpack p)))) -∗ Q ⟨⟩))
      ⊢ wp frame (wpE (defs₀ (F := F)) 𝒱₀ (c : Thread nD τ) none) Set.univ (addPart c s r) Q := by
  unfold addPart
  simp only [Prog.lift, Prog.bind_op, Prog.bind_ret, Prog.pure_eq_ret]
  unfold outIs rAt rAny rPts
  iintro ⟨⟨%g, %hg, Hr⟩, ⟨%f, %hf, Hout⟩, Hk⟩
  iapply (wp_load 𝒱₀ (c : Thread nD τ) none Set.univ (m := oM) (Finset.subset_univ _)) $$ Hout; iintro Hout
  iapply (wp_load 𝒱₀ (c : Thread nD τ) none Set.univ (m := rM) (rSlot_load s)) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := chunkRect c r) (Mk := Finset.univ) (Finset.subset_univ _)) $$ Hout; iintro Hout
  rw [wp_ret]; imodintro
  iapply Hk
  isplitl [Hr]; · iexists g; iexact Hr
  iexists (stored c r f (k0_pay3 (oM.view.readAt (Elt F) (chunkRect c r).toLoadRect f) (rM.view.readAt (Elt F) (slotRect s).toLoadRect g)))
  isplitr
  · ipureintro
    rw [stored_chunks, added, hg, hf]
  iexact Hout

/-- The received packet put in place of a chunk. -/
theorem wp_setPart (c : Dev nD) (s : Fin 6) (r : Fin 5) (A : Fin 4 → Chunk F) (p : Packet F) (Q : PUnit → sProp 𝕄) :
    iprop(rAt c s p ∗ outIs c A ∗ ((rAny (F := F) c s ∗ outIs c (Function.update A (chunkIx c r) (unpack p))) -∗ Q ⟨⟩))
      ⊢ wp frame (wpE (defs₀ (F := F)) 𝒱₀ (c : Thread nD τ) none) Set.univ (setPart c s r) Q := by
  unfold setPart
  simp only [Prog.lift, Prog.bind_op, Prog.bind_ret, Prog.pure_eq_ret]
  unfold outIs rAt rAny rPts
  iintro ⟨⟨%g, %hg, Hr⟩, ⟨%f, %hf, Hout⟩, Hk⟩
  iapply (wp_load 𝒱₀ (c : Thread nD τ) none Set.univ (m := rM) (rSlot_load s)) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := chunkRect c r) (Mk := Finset.univ) (Finset.subset_univ _)) $$ Hout; iintro Hout
  rw [wp_ret]; imodintro
  iapply Hk
  isplitl [Hr]; · iexists g; iexact Hr
  iexists (stored c r f (k0_pay9 (rM.view.readAt (Elt F) (slotRect s).toLoadRect g)))
  isplitr
  · ipureintro
    rw [stored_chunks, placed, hg, hf]
  iexact Hout

/-- The update of step `s`: an addition in the first three steps, a replacement after. -/
def updPart (c : Dev nD) (s : Fin 6) : Prog (TpuEff nD τ sig (Elt F) Λ₀ .tc) PUnit :=
  if s.val < 3 then addPart c s (rR s) else setPart c s (rR s)

/-- Step `s`. -/
def stepProg (c : Dev nD) (s : Fin 6) : Prog (TpuEff nD τ sig (Elt F) Λ₀ .tc) PUnit := do
  sendPart c (target c s) s (sR s)
  updPart c s

/-- Step `s` takes every device's chunks from `state X s` to `state X (s + 1)`. -/
theorem wp_step (c : Dev nD) (s : Fin 6) (Q : PUnit → sProp 𝕄) :
    iprop(stepPre X K c s ∗ levAts L lv ∗ outIs c (state X s.val c) ∗ (∃ W, owes (c : Thread nD τ) (owedFrom c s.val) W)
        ∗ ((stepPost (F := F) c s ∗ outIs c (state X (s.val + 1) c) ∗ ∃ W, owes (c : Thread nD τ) (owedFrom c (s.val + 1)) W) -∗ Q ⟨⟩))
      ⊢ wp frame (wpE (defs₀ (F := F)) 𝒱₀ (c : Thread nD τ) none) Set.univ (stepProg c s) Q := by
  unfold stepProg
  rw [wp_bind]
  iintro ⟨Hpre, Hlev, Hout, ⟨%W, HO⟩, Hk⟩
  iapply (wp_sendPart X K c s W _)
  isplitl [Hpre]; · iexact Hpre
  isplitl [Hlev]; · iexact Hlev
  isplitl [Hout]; · iexact Hout
  isplitl [HO]; · iexact HO
  unfold stepMid
  iintro ⟨⟨Hz, Hs, Hr⟩, Hout, HO⟩
  rw [state_succ]
  unfold updPart advance newChunk
  by_cases h : s.val < 3
  · rw [if_pos h, if_pos h]
    iapply (wp_addPart c s (rR s) _ _ Q)
    isplitl [Hr]; · iexact Hr
    isplitl [Hout]; · iexact Hout
    iintro ⟨Hr, Hout⟩
    iapply Hk
    unfold stepPost sent
    isplitl [Hz Hs Hr]
    · isplitl [Hz]; · iexact Hz
      isplitl [Hs] <;> iassumption
    isplitl [Hout] <;> iassumption
  · rw [if_neg h, if_neg h]
    iapply (wp_setPart c s (rR s) _ _ Q)
    isplitl [Hr]; · iexact Hr
    isplitl [Hout]; · iexact Hout
    iintro ⟨Hr, Hout⟩
    iapply Hk
    unfold stepPost sent
    isplitl [Hz Hs Hr]
    · isplitl [Hz]; · iexact Hz
      isplitl [Hs] <;> iassumption
    isplitl [Hout] <;> iassumption

/-! ## The handshake and the copy -/

/-- What the handshake uses: the invariants of the three barrier semaphores, the device's place at its own, the duties it pays
    at its neighbours', and the credit of its own wait. -/
def barGhost (c : Dev nD) : sProp 𝕄 :=
  iprop((cellInv ER (ringRd X) (K (barCell c)) (barCell c) ∗ cellInv ER (ringRd X) (K (barCell (nxt c))) (barCell (nxt c))
      ∗ cellInv ER (ringRd X) (K (barCell (prv c))) (barCell (prv c)))
    ∗ atPos ER (barCell c) 0 ∅ 0 ∗ (dutyTok ER (barCell (nxt c)) 0 false ∗ dutyTok ER (barCell (prv c)) 0 true)
    ∗ (reached ER (barCell (nxt c)) 0 ∗ reached ER (barCell (prv c)) 0) ∗ cred (tallyAt (barCell c) () 2))

/-- The handshake lends the predecessor the own receive slots and borrows the successor's. -/
theorem wp_handshake (c : Dev nD) (W : Waits sig Unit) (Q : PUnit → sProp 𝕄) :
    iprop(barGhost X K c ∗ levAts L lv ∗ barPay (F := F) (prv c) ∗ owes (c : Thread nD τ) (O₀ c) W
        ∗ ((semVal (barCell c) 0 ∗ barPay (F := F) c ∗ ∃ W, owes (c : Thread nD τ) (owedFrom c 0) W) -∗ Q ⟨⟩))
      ⊢ wp frame (wpE (defs₀ (F := F)) 𝒱₀ (c : Thread nD τ) none) Set.univ (handshake (prv c) (nxt c)) Q := by
  unfold handshake
  simp only [semSignalWord, semWaitWord, Prog.lift, Prog.bind_op, Prog.bind_ret, Prog.pure_eq_ret]
  unfold barGhost
  iintro ⟨⟨⟨#HI, #HIn, #HIp⟩, Hat, ⟨HtN, HtP⟩, ⟨#HrN, #HrP⟩, Hc⟩, #Hlev, Hlend, HO, Hk⟩
  iapply (Rounds.wp_signal 𝒱₀ ER (ringRd X) (c : Thread nD τ) none (dst := (prv c : Thread nD τ)) (κ := K (barCell (prv c)))
      (d := true) (by rw [duties_bar]; exact Finset.mem_univ _) ((amount_bar X (prv c) true).trans (by decide)) ()
      (owedFrom c 0 + tallyAt (barCell (nxt c)) () 1) rfl) $$ [HO HtP Hlend]
  · isplitr; · iexact HIp
    isplitl [HO]; · iexact HO
    isplitl [HtP]; · iexact HtP
    isplitl [Hlend]; · rw [payload_bar_true]; iexact Hlend
    iexact HrP
  iintro HO
  iapply (Rounds.wp_signal 𝒱₀ ER (ringRd X) (c : Thread nD τ) none (dst := (nxt c : Thread nD τ)) (κ := K (barCell (nxt c)))
      (d := false) (by rw [duties_bar]; exact Finset.mem_univ _) ((amount_bar X (nxt c) false).trans (by decide)) () (owedFrom c 0) rfl)
    $$ [HO HtN]
  · isplitr; · iexact HIn
    isplitl [HO]; · iexact HO
    isplitl [HtN]; · iexact HtN
    isplitr; · rw [payload_bar_false]; iempintro
    iexact HrN
  iintro HO
  iapply (Rounds.wp_wait_rest_token 𝒱₀ ER (ringRd X) (c : Thread nD τ) none (κ := K (barCell c))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  icases Hp with ⟨-, Hp⟩
  rw [wp_ret]
  imod (close X (K (barCell c)) (barCell c)) $$ [Hat] with Hz
  · isplitr; · iexact HI
    iexact Hat
  imodintro
  iapply Hk
  isplitl [Hz]; · iexact Hz
  isplitl [Hp]; · iexact Hp
  iexists _; iexact HO

theorem hz : (![0, 0] : Fin 2 → Nat) = fun _ => 0 := funext fun a => by fin_cases a <;> rfl

/-- The operand's buffer copied into the result's. -/
theorem wp_copyIn (c : Dev nD) (fx fo : Whole F) (Q : PUnit → sProp 𝕄) :
    iprop(pt c cc0_stg0_0 fx ∗ pt c cc0_stg1_0 fo ∗ ((pt c cc0_stg0_0 fx ∗ pt c cc0_stg1_0 fx) -∗ Q ⟨⟩))
      ⊢ wp frame (wpE (defs₀ (F := F)) 𝒱₀ (c : Thread nD τ) none) Set.univ (copyIn (F := F)) Q := by
  unfold copyIn
  simp only [Prog.lift, Prog.bind_op, Prog.bind_ret, Prog.pure_eq_ret]
  iintro ⟨Hx, Hout, Hk⟩
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := wholeRect) (Mk := Finset.univ) (Finset.subset_univ _)) $$ Hout; iintro Hout
  rw [wp_ret]; imodintro
  iapply Hk
  isplitl [Hx]; · iexact Hx
  have h : (oM.access wholeRect).write (Elt F) fo (k0_pay1 (xM.view.readAt (Elt F) wholeRect.toLoadRect fx)) Finset.univ = fx := by
    refine (Memref.write_access_unit_zero_univ (Elt F) cc0_stg1_0 hz _ fo _).trans ((pay1_eq _).trans ?_)
    exact Memref.readAt_unit_zero (Elt F) cc0_stg0_0 hz _ fx
  ihave Hout := (Entails.of_eq (congrArg (fun g => (pt c cc0_stg1_0 g : sProp 𝕄)) h)) $$ Hout
  iexact Hout

/-! ## The six steps in a row -/

theorem bigSep_add {I : Type} [DecidableEq I] {i : I} {s : Finset I} (h : i ∉ s) {Φ : I → sProp 𝕄} :
    bigSep (insert i s) Φ = iprop(Φ i ∗ bigSep s Φ) := BI.bigSep_insert h

/-- Before step `n`: what the steps from `n` on start from, and what those below `n` left. -/
def stepsAt (c : Dev nD) (n : ℕ) : sProp 𝕄 :=
  iprop(bigSep (Finset.univ.filter (fun s : Fin 6 => n ≤ s.val)) (fun s => stepPre X K c s)
    ∗ bigSep (Finset.univ.filter (fun s : Fin 6 => s.val < n)) (fun s => stepPost (F := F) c s)
    ∗ levAts L lv ∗ outIs c (state X n c) ∗ ∃ W, owes (c : Thread nD τ) (owedFrom c n) W)

theorem wp_stepAt (c : Dev nD) (s : Fin 6) (Q : PUnit → sProp 𝕄) :
    iprop(stepsAt X K c s.val ∗ (stepsAt X K c (s.val + 1) -∗ Q ⟨⟩))
      ⊢ wp frame (wpE (defs₀ (F := F)) 𝒱₀ (c : Thread nD τ) none) Set.univ (stepProg c s) Q := by
  have h1 : Finset.univ.filter (fun t : Fin 6 => s.val ≤ t.val) = insert s (Finset.univ.filter (fun t : Fin 6 => s.val + 1 ≤ t.val)) := by
    revert s; decide
  have h2 : Finset.univ.filter (fun t : Fin 6 => t.val < s.val + 1) = insert s (Finset.univ.filter (fun t : Fin 6 => t.val < s.val)) := by
    revert s; decide
  unfold stepsAt
  rw [h1, h2, bigSep_add (by simp), bigSep_add (by simp)]
  iintro ⟨⟨⟨Hpre, Htodo⟩, Hdone, #Hlev, Hout, HO⟩, Hk⟩
  iapply (wp_step X K c s Q)
  isplitl [Hpre]; · iexact Hpre
  isplitr; · iexact Hlev
  isplitl [Hout]; · iexact Hout
  isplitl [HO]; · iexact HO
  iintro ⟨Hpost, Hout, HO⟩
  iapply Hk
  isplitl [Htodo]; · iexact Htodo
  isplitl [Hpost Hdone]; · isplitl [Hpost] <;> iassumption
  isplitr; · iexact Hlev
  isplitl [Hout] <;> iassumption

/-- All six. -/
theorem wp_steps (c : Dev nD) (Q : PUnit → sProp 𝕄) :
    iprop(stepsAt X K c 0 ∗ (stepsAt X K c 6 -∗ Q ⟨⟩))
      ⊢ wp frame (wpE (defs₀ (F := F)) 𝒱₀ (c : Thread nD τ) none) Set.univ
          (do stepProg c 0; stepProg c 1; stepProg c 2; stepProg c 3; stepProg c 4; stepProg c 5) Q := by
  simp only [wp_bind]
  iintro ⟨H, Hk⟩
  iapply (wp_stepAt X K c 0 _); isplitl [H]; · iexact H
  iintro H
  iapply (wp_stepAt X K c 1 _); isplitl [H]; · iexact H
  iintro H
  iapply (wp_stepAt X K c 2 _); isplitl [H]; · iexact H
  iintro H
  iapply (wp_stepAt X K c 3 _); isplitl [H]; · iexact H
  iintro H
  iapply (wp_stepAt X K c 4 _); isplitl [H]; · iexact H
  iintro H
  iapply (wp_stepAt X K c 5 Q); isplitl [H]; · iexact H
  iintro H
  iapply Hk; iexact H

/-! ## The whole body -/

/-- What the body starts from on device `c`: the protocol's ghost state, its scratch buffers by slots, its operand's buffer at
    its partial product, its result's at anything, and what it owes. -/
def bodyPre (c : Dev nD) (W : Waits sig Unit) : sProp 𝕄 :=
  iprop(barGhost X K c ∗ bigSep Finset.univ (fun s => stepGhost X K c s) ∗ levAts L lv ∗ barPay (F := F) (prv c)
    ∗ bigSep Finset.univ (fun s => sAny (F := F) c s) ∗ pt c cc0_stg0_0 (X c) ∗ (∃ f : Whole F, pt c cc0_stg1_0 f) ∗ owes (c : Thread nD τ) (O₀ c) W)

/-- What it leaves: every semaphore at zero, the scratch buffers by slots, the operand's buffer unchanged, the result's at the
    chunks after six steps, nothing owed. -/
def bodyPost (c : Dev nD) : sProp 𝕄 :=
  iprop(semVal (barCell c) 0 ∗ bigSep Finset.univ (fun s => stepPost (F := F) c s) ∗ pt c cc0_stg0_0 (X c) ∗ outIs c (state X 6 c)
    ∗ ∃ W, owes (c : Thread nD τ) (0 : CellTallies nD τ sig Unit) W)

theorem stepsAt_zero (c : Dev nD) :
    iprop(bigSep Finset.univ (fun s => stepGhost X K c s) ∗ bigSep Finset.univ (fun s => sAny (F := F) c s) ∗ barPay (F := F) c
        ∗ levAts L lv ∗ outIs c (state X 0 c) ∗ ∃ W, owes (c : Thread nD τ) (owedFrom c 0) W)
      ⊢ stepsAt X K c 0 := by
  unfold stepsAt
  rw [show Finset.univ.filter (fun s : Fin 6 => 0 ≤ s.val) = Finset.univ from by decide,
    show Finset.univ.filter (fun s : Fin 6 => s.val < 0) = ∅ from by decide, bigSep_empty]
  unfold stepPre barPay
  rw [bigSep_sep', bigSep_sep']
  iintro ⟨Hg, Hs, Hb, Hlev, Hout, HO⟩
  isplitl [Hg Hs Hb]
  · isplitl [Hg]; · iexact Hg
    isplitl [Hs] <;> iassumption
  isplitr; · iempintro
  isplitl [Hlev]; · iexact Hlev
  isplitl [Hout] <;> iassumption

theorem stepsAt_six (c : Dev nD) :
    stepsAt X K c 6 ⊢ iprop(bigSep Finset.univ (fun s => stepPost (F := F) c s) ∗ outIs c (state X 6 c)
      ∗ ∃ W, owes (c : Thread nD τ) (0 : CellTallies nD τ sig Unit) W) := by
  unfold stepsAt
  rw [show Finset.univ.filter (fun s : Fin 6 => s.val < 6) = Finset.univ from by decide, owedFrom_end]
  iintro ⟨-, Hp, -, Hout, HO⟩
  isplitl [Hp]; · iexact Hp
  isplitl [Hout] <;> iassumption

/-- The body, run. -/
theorem wp_body (c : Dev nD) (W : Waits sig Unit) (Q : PUnit → sProp 𝕄) :
    iprop(bodyPre X K c W ∗ (bodyPost X c -∗ Q ⟨⟩))
      ⊢ wp frame (wpE (defs₀ (F := F)) 𝒱₀ (c : Thread nD τ) none) Set.univ
          (cc0_body (F := F) xM (Memref.isWhole_whole _) oM (Memref.isWhole_whole _) sM (Memref.isWhole_whole _) rM (Memref.isWhole_whole _) cc0_scratch2 cc0_scratch3) Q := by
  rw [body_eq]
  have hb : wp frame (wpE (defs₀ (F := F)) 𝒱₀ (c : Thread nD τ) none) Set.univ (ringBody (F := F)) Q
      = wp frame (wpE (defs₀ (F := F)) 𝒱₀ (c : Thread nD τ) none) Set.univ (handshake (prv c) (nxt c))
        (fun _ => wp frame (wpE (defs₀ (F := F)) 𝒱₀ (c : Thread nD τ) none) Set.univ (copyIn (F := F))
          (fun _ => wp frame (wpE (defs₀ (F := F)) 𝒱₀ (c : Thread nD τ) none) Set.univ
            (do stepProg c 0; stepProg c 1; stepProg c 2; stepProg c 3; stepProg c 4; stepProg c 5) Q)) := by
    unfold ringBody stepProg
    simp only [Prog.lift, Prog.bind_op, Prog.bind_ret, wp_deviceId, wp_bind, dev1_eq, dev2_eq]
    rfl
  rw [hb]
  unfold bodyPre
  iintro ⟨⟨Hbar, Hg, #Hlev, Hlend, Hs, Hx, ⟨%fo, Hout⟩, HO⟩, Hk⟩
  iapply (wp_handshake X K c W _)
  isplitl [Hbar]; · iexact Hbar
  isplitr; · iexact Hlev
  isplitl [Hlend]; · iexact Hlend
  isplitl [HO]; · iexact HO
  iintro ⟨Hz, Hb, HO⟩
  iapply (wp_copyIn c (X c) fo _)
  isplitl [Hx]; · iexact Hx
  isplitl [Hout]; · iexact Hout
  iintro ⟨Hx, Hout⟩
  iapply (wp_steps X K c Q)
  isplitl [Hg Hs Hb Hout HO]
  · iapply (stepsAt_zero X K c)
    isplitl [Hg]; · iexact Hg
    isplitl [Hs]; · iexact Hs
    isplitl [Hb]; · iexact Hb
    isplitr; · iexact Hlev
    isplitl [Hout]
    · unfold outIs; iexists (X c); isplitr; · (ipureintro; rfl)
      iexact Hout
    iexact HO
  iintro H
  ihave H := (stepsAt_six X K c) $$ H
  icases H with ⟨Hp, Hout, HO⟩
  iapply Hk
  unfold bodyPost
  isplitl [Hz]; · iexact Hz
  isplitl [Hp]; · iexact Hp
  isplitl [Hx]; · iexact Hx
  isplitl [Hout] <;> iassumption

end Cert.RingProof

end
-- ==== Proof.Region.lean ====
/-
# The pallas_call

The call on device `c`, from the partial product its host operation made: what the device holds before the body and after
it, the body's obligation, and the call as one segment of @main. The operand's buffer ends as it was, the result's array at
`total m c`, and of the protocol only the barrier semaphore, at zero, is left over.
-/
module

public import proofs.«01_k».proof.Proof.Body
public import proofs.«01_k».proof.Proof.Gen.KernelIdeal.Frame

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## Contents -/

/-- Device `c`'s buffers at launch; after the host operation. -/
abbrev V₀ (c : Dev nD) : Valuation τ sig (Elt F) := fun b => m (c, b)
abbrev V₁ (c : Dev nD) : Valuation τ sig (Elt F) := StableHlo.after hostOps0 (V₀ m c)

/-- Device `c`'s partial product. -/
def part (c : Dev nD) : Whole F := V₁ m c (Proc.devRef .tc main_v1)
/-- What its result's array ends at. -/
def total (c : Dev nD) : Whole F := glue (state (part m) 6 c)

/-- Its buffers after the call. -/
abbrev V₂ (c : Dev nD) : Valuation τ sig (Elt F) := Function.update (V₁ m c) (Proc.devRef .tc main_v2) (total m c)

theorem outIs_total (c : Dev nD) : outIs c (state (part m) 6 c) ⊢ (pt c cc0_stg1_0 (total m c) : sProp 𝕄) := by
  unfold outIs
  iintro ⟨%f, %h, H⟩
  have e : f = total m c := whole_ext fun k => by rw [h]; exact (congrFun (chunkOf_glue (F := F) _) k).symm
  rw [e]
  iexact H

/-! ## The scratch buffers by slots -/

theorem sSlots_split (c : Dev nD) :
    iprop(∃ f : Buf (Elt F) ((c : Thread nD τ).loc cc0_scratch0), ((c : Thread nD τ).loc cc0_scratch0) ↦{fullShare} f)
      ⊢ (bigSep Finset.univ (fun s => sAny (F := F) c s) : sProp 𝕄) := by
  iintro ⟨%f, H⟩
  ihave H := (Entails.of_eq (Ring.pointsTo_blocks (ℓ := (c : Thread nD τ).loc cc0_scratch0) (q := fullShare)
    (fun s : Fin 6 => (slotRect s).set) slot_disjoint slot_cover f)) $$ H
  have e : ∀ s : Fin 6, (((c : Thread nD τ).loc cc0_scratch0) ↦[(slotRect s).set]{fullShare} f : sProp 𝕄) ⊢ sAny (F := F) c s := fun s => by
    unfold sAny sPts; rw [sSlot_set]; iintro H; iexists f; iexact H
  ihave H := (show (bigSep Finset.univ fun s : Fin 6 => (((c : Thread nD τ).loc cc0_scratch0) ↦[(slotRect s).set]{fullShare} f : sProp 𝕄))
    ⊢ bigSep Finset.univ (fun s => sAny (F := F) c s) from bigSep_mono fun s _ => e s) $$ H
  iexact H
theorem rSlots_split (c : Dev nD) :
    iprop(∃ f : Buf (Elt F) ((c : Thread nD τ).loc cc0_scratch1), ((c : Thread nD τ).loc cc0_scratch1) ↦{fullShare} f)
      ⊢ (bigSep Finset.univ (fun s => rAny (F := F) c s) : sProp 𝕄) := by
  iintro ⟨%f, H⟩
  ihave H := (Entails.of_eq (Ring.pointsTo_blocks (ℓ := (c : Thread nD τ).loc cc0_scratch1) (q := fullShare)
    (fun s : Fin 6 => (slotRect s).set) slot_disjoint slot_cover f)) $$ H
  have e : ∀ s : Fin 6, (((c : Thread nD τ).loc cc0_scratch1) ↦[(slotRect s).set]{fullShare} f : sProp 𝕄) ⊢ rAny (F := F) c s := fun s => by
    unfold rAny rPts; rw [rSlot_set]; iintro H; iexists f; iexact H
  ihave H := (show (bigSep Finset.univ fun s : Fin 6 => (((c : Thread nD τ).loc cc0_scratch1) ↦[(slotRect s).set]{fullShare} f : sProp 𝕄))
    ⊢ bigSep Finset.univ (fun s => rAny (F := F) c s) from bigSep_mono fun s _ => e s) $$ H
  iexact H

theorem some_contents : Nonempty (S6x512x2048.Idx → Elt F .bf16) := have (e : EltTy) : Nonempty (Elt F e) := inferInstance
  inferInstance

theorem sSlots_join (c : Dev nD) : (bigSep Finset.univ (fun s => sAny (F := F) c s) : sProp 𝕄)
    ⊢ iprop(∃ f : Buf (Elt F) ((c : Thread nD τ).loc cc0_scratch0), ((c : Thread nD τ).loc cc0_scratch0) ↦{fullShare} f) := by
  refine BIBase.Entails.trans (bigSep_mono fun (s : Fin 6) _ => ?_) (Ring.pointsTo_blocks_join_exists (ℓ := (c : Thread nD τ).loc cc0_scratch0)
    (q := fullShare) (fun s : Fin 6 => (slotRect s).set) slot_disjoint slot_cover some_contents.some)
  unfold sAny sPts; rw [sSlot_set]; exact BI.Entails.refl _
theorem rSlots_join (c : Dev nD) : (bigSep Finset.univ (fun s => rAny (F := F) c s) : sProp 𝕄)
    ⊢ iprop(∃ f : Buf (Elt F) ((c : Thread nD τ).loc cc0_scratch1), ((c : Thread nD τ).loc cc0_scratch1) ↦{fullShare} f) := by
  refine BIBase.Entails.trans (bigSep_mono fun (s : Fin 6) _ => ?_) (Ring.pointsTo_blocks_join_exists (ℓ := (c : Thread nD τ).loc cc0_scratch1)
    (q := fullShare) (fun s : Fin 6 => (slotRect s).set) slot_disjoint slot_cover some_contents.some)
  unfold rAny rPts; rw [rSlot_set]; exact BI.Entails.refl _

/-! ## Before and after the body -/

/-- Before the body: the protocol's ghost state at some names, the level facts, what the device lends its predecessor, its
    send slots and its generator register. -/
def before (c : Dev nD) : sProp 𝕄 :=
  iprop((∃ K, barGhost (part m) K c ∗ bigSep Finset.univ (fun s => stepGhost (part m) K c s)) ∗ levAts L lv ∗ barPay (F := F) (prv c)
    ∗ bigSep Finset.univ (fun s => sAny (F := F) c s) ∗ ∃ r, prngReg c r)
/-- After it: every semaphore of the protocol at zero, both scratch buffers by slots, the register. -/
def after (c : Dev nD) : sProp 𝕄 :=
  iprop(semVal (barCell c) 0 ∗ bigSep Finset.univ (fun s => stepPost (F := F) c s) ∗ ∃ r, prngReg c r)

/-- The call's contents, debts and invariant on device `c`. -/
def dat (c : Dev nD) : Dat τ (Elt F) Unit ℕ UU ℕ cfg0 c where
  A w := V₁ m c (Proc.devRef .tc (Pipeline.arrRef spec0 w))
  after w _ := match w with
    | ⟨0, _⟩ => part m c
    | ⟨1, _⟩ => total m c
  Φ t := if t.val = 0 then before m c else after c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem owed_eq (c : Dev nD) (t : Fin (cfg0.N + 1)) : (dat m c).owed t = if t.val = 0 then O₀ c else 0 := rfl
theorem inv_eq (c : Dev nD) (t : Fin (cfg0.N + 1)) : (dat m c).Φ t = if t.val = 0 then before m c else after c := rfl
theorem last_ne : (Fin.last cfg0.N).val ≠ 0 := by rw [Fin.val_last, show cfg0.N = 1 from N_0]; decide

theorem owed_first (c : Dev nD) : (dat m c).owed t0_0.castSucc = O₀ c := (owed_eq m c _).trans (if_pos rfl)
theorem owed_zero (c : Dev nD) : (dat m c).owed 0 = O₀ c := (owed_eq m c _).trans (if_pos rfl)
theorem owed_succ (c : Dev nD) : (dat m c).owed t0_0.succ = 0 := (owed_eq m c _).trans (if_neg (Nat.succ_ne_zero _))
theorem owed_last (c : Dev nD) : (dat m c).owed (Fin.last cfg0.N) = 0 := (owed_eq m c _).trans (if_neg last_ne)
theorem inv_first (c : Dev nD) : (dat m c).Φ t0_0.castSucc = before m c := (inv_eq m c _).trans (if_pos rfl)
theorem inv_zero (c : Dev nD) : (dat m c).Φ 0 = before m c := (inv_eq m c _).trans (if_pos rfl)
theorem inv_succ (c : Dev nD) : (dat m c).Φ t0_0.succ = after c := (inv_eq m c _).trans (if_neg (Nat.succ_ne_zero _))
theorem inv_last (c : Dev nD) : (dat m c).Φ (Fin.last cfg0.N) = after c := (inv_eq m c _).trans (if_neg last_ne)

theorem owesAt_take (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO
theorem owesAt_give (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h, show (dat m c).recorded t = Set.univ from rfl]
  iintro HO; iexists W; isplitr; · ipureintro; exact fun _ _ => Or.inl trivial
  iexact HO

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- Each window's one block is its whole array. -/
theorem operand_emb (j : S2048x2048.Idx) : (win0_0.blk t0_0).view.emb j = j :=
  funext fun a => Fin.ext ((win0_0.rect_emb_val_off t0_0 j a).trans (by simp [show win0_0.index t0_0 a = 0 from rfl]))
theorem result_emb (j : S2048x2048.Idx) : (win0_1.blk t0_0).view.emb j = j :=
  funext fun a => Fin.ext ((win0_1.rect_emb_val_off t0_0 j a).trans (by simp [show win0_1.index t0_0 a = 0 from rfl]))

/-- The operand's staging buffer holds the partial product when the body starts. -/
theorem before_operand (c : Dev nD) (d) : (dat m c).before (0 : Fin 2) t0_0 d = part m c := by
  unfold Dat.before
  rw [if_pos (fetch0_0 t0_0)]
  funext j
  exact congrArg (part m c) (operand_emb j)

/-- The operand's array ends as it was; the result's ends at `total m c`. -/
theorem operand_end (c : Dev nD) : (dat m c).arrAt (0 : Fin 2) cfg0.N = V₂ m c (Proc.devRef .tc main_v1) :=
  ((dat m c).arrAt_in (0 : Fin 2) rfl _).trans (Function.update_of_ne (StableHlo.devRef_ne_of_ne (show main_v1 ≠ main_v2 by decide)) (total m c) (V₁ m c)).symm
theorem result_end (c : Dev nD) : (dat m c).arrAt (1 : Fin 2) cfg0.N = V₂ m c (Proc.devRef .tc main_v2) :=
  ((dat m c).arrAt_eq_of_cover (1 : Fin 2) (total m c)
    (fun t _ => by obtain rfl := fin_N0 t; exact funext fun j => (congrArg (total m c) (result_emb j)).symm)
    (fun i => ⟨t0_0, flush0_1 t0_0, Finset.mem_map.mpr ⟨i, Finset.mem_univ _, result_emb i⟩⟩)).trans
    (Function.update_self (f := V₁ m c) (Proc.devRef .tc main_v2) (total m c)).symm

/-! ## The body's obligation -/

theorem body_runs (c : Dev nD) : BodyObligation (dat m c) (defs₀ (F := F)) 𝒱₀ () Set.univ := fun t => by
  obtain rfl := fin_N0 t
  rw [bigSep_W0, bigSep_W0]
  simp only [owns_whole, inv_first, inv_succ, before_operand]
  unfold before after
  iintro ⟨⟨⟨%K, Hbar, Hg⟩, Hlev, Hlend, Hs, Hreg⟩, HO, ⟨%d0, %g0, %hg0, Hx⟩, ⟨%d1, %g1, -, Hout⟩⟩
  subst hg0
  ihave HO := (owesAt_take m c _ (O₀ c) (owed_first m c)) $$ HO
  icases HO with ⟨%W, HO⟩
  iapply (wp_body (part m) K c W _)
  unfold bodyPre bodyPost
  isplitr [Hreg]
  · isplitl [Hbar]; · iexact Hbar
    isplitl [Hg]; · iexact Hg
    isplitl [Hlev]; · iexact Hlev
    isplitl [Hlend]; · iexact Hlend
    isplitl [Hs]; · iexact Hs
    isplitl [Hx]; · iexact Hx
    isplitl [Hout]; · iexists g1; iexact Hout
    iexact HO
  iintro ⟨Hz, Hp, Hx, Hout, ⟨%W', HO⟩⟩
  isplitl [Hz Hp Hreg]
  · isplitl [Hz]; · iexact Hz
    isplitl [Hp] <;> iassumption
  isplitl [HO]; · iapply (owesAt_give m c _ 0 (owed_succ m c) W'); iexact HO
  isplitl [Hx]
  · iexists (part m c); isplitr; · (ipureintro; rfl)
    iexact Hx
  iexists (total m c); isplitr; · (ipureintro; rfl)
  iapply (outIs_total m c); iexact Hout

/-! ## The call's semaphores -/

/-- The protocol's scoped semaphores: six to send with, six to receive with. -/
abbrev osem (k : Fin 2 × Fin 6) : SemLoc sig := if k.1 = 0 then .dma (sendS k.2) else .dma (recvS k.2)

theorem osem_facts : Pipeline.OwnSemFacts spec0 osem := by decide

theorem ownSems_eq (c : Dev nD) : (Pipeline.ownSems0 osem c : sProp 𝕄)
    = iprop(bigSep Finset.univ (fun s => semVal (sendCell c s) 0) ∗ bigSep Finset.univ (fun s => semVal (recvCell c s) 0)) := by
  unfold Pipeline.ownSems0
  rw [bigSep_univ_prod]
  exact BI.bigSep_fin_two _

/-- Step `s`'s ghost state before its two semaphores are put under their invariants. -/
def stepDormant (X : Dev nD → Whole F) (K : GSem nD τ sig → ℕ) (c : Dev nD) (s : Fin 6) : sProp 𝕄 :=
  iprop(stepInv X K c s ∗ (openTok ER (sendCell c s) ∗ openTok ER (recvCell c s))
    ∗ (dutyTok ER (sendCell c s) 0 false ∗ dutyTok ER (recvCell (nxt c) s) 0 false)
    ∗ cred (tallyAt (recvCell c s) () N))

theorem step_open (X : Dev nD → Whole F) (K : GSem nD τ sig → ℕ) (c : Dev nD) (s : Fin 6) :
    iprop(stepDormant X K c s ∗ semVal (sendCell c s) 0 ∗ semVal (recvCell c s) 0)
      ⊢ (|={Set.univ}=> iprop(stepGhost X K c s ∗ reached ER (recvCell c s) 0) : sProp 𝕄) := by
  unfold stepDormant stepGhost stepInv
  iintro ⟨⟨⟨#HIs, #HIr, #HIn⟩, ⟨HoS, HoR⟩, Htok, Hc⟩, HvS, HvR⟩
  imod (Rounds.cell_open ER (ringRd X) (g := sendCell c s) (Set.mem_univ (K (sendCell c s)))) $$ [HoS HvS] with ⟨HaS, #HrS⟩
  · isplitr; · iexact HIs
    isplitl [HoS] <;> iassumption
  imod (Rounds.cell_open ER (ringRd X) (g := recvCell c s) (Set.mem_univ (K (recvCell c s)))) $$ [HoR HvR] with ⟨HaR, #HrR⟩
  · isplitr; · iexact HIr
    isplitl [HoR] <;> iassumption
  imodintro
  isplitl
  · isplitr
    · isplitr; · iexact HIs
      isplitr; · iexact HIr
      iexact HIn
    isplitl [HaS HaR]; · isplitl [HaS] <;> iassumption
    isplitl [Htok]; · iexact Htok
    isplitr; · iexact HrS
    iexact Hc
  iexact HrR

/-- What the launch leaves device `c` of the protocol, at some names; the same with its scoped semaphores in place. -/
def dormant (c : Dev nD) : sProp 𝕄 :=
  iprop(∃ K, barGhost (part m) K c ∗ bigSep Finset.univ (fun s => stepDormant (part m) K c s))
def opened (c : Dev nD) : sProp 𝕄 :=
  iprop((∃ K, barGhost (part m) K c ∗ bigSep Finset.univ (fun s => stepGhost (part m) K c s)) ∗ levAts L lv
    ∗ bigSep Finset.univ (fun s => reached ER (recvCell c s) 0))

theorem opens (c : Dev nD) : iprop(dormant m c ∗ Pipeline.ownSems0 osem c ∗ levAts L lv) ⊢ (|={Set.univ}=> opened m c : sProp 𝕄) := by
  rw [ownSems_eq]
  unfold dormant opened
  iintro ⟨⟨%K, Hbar, Hst⟩, ⟨HvS, HvR⟩, Hlev⟩
  have h : iprop(bigSep Finset.univ (fun s => stepDormant (part m) K c s) ∗ bigSep Finset.univ (fun s : Fin 6 => semVal (sendCell c s) 0)
        ∗ bigSep Finset.univ (fun s : Fin 6 => semVal (recvCell c s) 0))
      ⊢ (|={Set.univ}=> iprop(bigSep Finset.univ (fun s => stepGhost (part m) K c s) ∗ bigSep Finset.univ (fun s => reached ER (recvCell c s) 0)) : sProp 𝕄) := by
    rw [← bigSep_sep', ← bigSep_sep', ← bigSep_sep']
    exact (bigSep_mono fun s _ => step_open (part m) K c s).trans (bigSep_fupd _ _)
  imod h $$ [Hst HvS HvR] with ⟨Hg, Hr⟩
  · isplitl [Hst]; · iexact Hst
    isplitl [HvS] <;> iassumption
  imodintro
  isplitl [Hbar Hg]
  · iexists K; isplitl [Hbar] <;> iassumption
  isplitl [Hlev] <;> iassumption

/-! ## The call as a segment -/

/-- The arguments of @main: held beside the call's arrays. -/
abbrev args : Finset (DevRef τ sig) := {Proc.devRef .tc main_arg0, Proc.devRef .tc main_arg1}

theorem scoped_eq (c : Dev nD) :
    (Pipeline.scopedRest (Ix := Unit) (Name := ℕ) (U := UU) (Lvl := ℕ) (Val := Elt F) (Pipeline.pin (pcfgs (F := F)) adm 0).spec c : sProp 𝕄)
      = iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) := scopedRest0_eq c

theorem enters (c : Dev nD) :
    iprop(Pipeline.scopedRest (Pipeline.pin (pcfgs (F := F)) adm 0).spec c ∗ (∃ r, prngReg c r)
        ∗ StableHlo.held (c.tc : Thread nD τ) (∅ : Finset (DevRef τ sig)) (V₁ m c) ∗ opened m c)
      ⊢ (pdats m 0 c).Φ 0 := by
  rw [show (pdats m 0 c).Φ 0 = before m c from inv_zero m c, scoped_eq]
  unfold before opened barPay lend
  rw [bigSep_sep', nxt_prv]
  iintro ⟨⟨Hs, Hr⟩, Hreg, -, HK, Hlev, Hre⟩
  isplitl [HK]; · iexact HK
  isplitl [Hlev]; · iexact Hlev
  isplitl [Hr Hre]
  · isplitl [Hr]; · iapply (rSlots_split (F := F) c); iexact Hr
    iexact Hre
  isplitl [Hs]; · iapply (sSlots_split (F := F) c); iexact Hs
  iexact Hreg

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) (∅ : Finset (DevRef τ sig)) (V₂ m c) ∗ Pipeline.ownSems0 osem c ∗ semVal (barCell c) 0) := by
  rw [show (pdats m 0 c).Φ (Fin.last (Pipeline.pin (pcfgs (F := F)) adm 0).N) = after c from inv_last m c, scoped_eq, ownSems_eq]
  unfold after stepPost
  rw [bigSep_sep', bigSep_sep', bigSep_sep']
  iintro ⟨Hz, ⟨⟨HzS, HzR⟩, Hs, Hr⟩, Hreg⟩
  isplitl [Hs Hr]
  · isplitl [Hs]; · iapply (sSlots_join (F := F) c); iexact Hs
    iapply (rSlots_join (F := F) c); iexact Hr
  isplitl [Hreg]; · iexact Hreg
  isplitr; · unfold StableHlo.held; rw [bigSep_empty]; iempintro
  isplitl [HzS HzR]; · isplitl [HzS] <;> iassumption
  iexact Hz

theorem stage_kind : ∀ (w : Fin 2) (s : Fin (spec0 w).nbuf), kindOf (.dma ((spec0 w).sem s)) = 1 := by decide

/-- The staging waits are below everything owed. -/
theorem cut : Pipeline.LevelCutOwed (pcfgs (F := F)) adm (pdats m) () L lv 0 (fun _ => 0) where
  hι c w s := by rw [L_tc]; exact Finset.mem_singleton_self _
  hιb c w s := by
    show lv ((c : Thread nD τ), .dma ((spec0 w).sem s)) () ≤ 0
    unfold lv; rw [stage_kind w s]; exact Nat.le_refl _
  hD c t g u h := by
    rw [show (pdats m 0 c).owed t = if t.val = 0 then O₀ c else 0 from owed_eq m c t] at h
    split at h
    · rcases O₀_pos h with ⟨t, rfl⟩ | rfl | rfl
      · exact ⟨by rw [L_tc]; exact Finset.mem_singleton_self _, by rw [lv_recv]; omega⟩
      · exact ⟨by rw [L_tc]; exact Finset.mem_singleton_self _, by rw [lv_bar]; omega⟩
      · exact ⟨by rw [L_tc]; exact Finset.mem_singleton_self _, by rw [lv_bar]; omega⟩
    · exact absurd h (Nat.lt_irrefl 0)

theorem args_kept (c : Dev nD) : ∀ b ∈ args \ (∅ : Finset (DevRef τ sig)), V₂ m c b = V₁ m c b := fun b hb => by
  rw [Finset.sdiff_empty] at hb
  have e : b ≠ Proc.devRef .tc main_v2 := fun e => absurd (e ▸ hb) (by decide)
  exact Function.update_of_ne e (total m c) (V₁ m c)

set_option backward.isDefEq.respectTransparency.types false in
/-- The call. -/
def call : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ args (Finset.empty_subset _) launch0.toP rfl (fun c => (body_runs m c).loose)
    (fun _ => 0) O₀ (fun c => (owed_zero m c).trans (zero_add _).symm) (owed_last m) (fun _ => rfl)
    (fun c w => by unfold Dat.share; split <;> rfl)
    (V₁ m) (V₂ m) (args_kept m)
    (dormant m) (fun c => semVal (barCell c) 0) (opened m) (fun c => semVal (barCell c) 0) (opens m) (enters m) (leaves m)
    (fun c => by iintro H; imodintro; iexact H)
    (fun _ => 0) (cut m) (fun _ => iprop(emp))
    (fun c w => rfl)
    (fun c w => match w with | ⟨0, _⟩ => operand_end m c | ⟨1, _⟩ => result_end m c)

end Cert.RingProof

end
-- ==== Proof.Launch.lean ====
/-
# The launch and the run

The launch puts every barrier semaphore under its invariant, allots to every device its rights at the semaphores of the call,
the duties it pays and the credit of its waits. `run_main` states the run: every execution of @main on the 32 devices
terminates, the arguments end unchanged, each result ends at `total m c`, and every semaphore ends at zero.
-/
module

public import proofs.«01_k».proof.Proof.Region
public import Idealize.SL.ProofMode.BigOp

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers of @main -/

/-- The buffers @main holds: the two arguments, the partial product, the result. -/
def bufs : Finset (DevRef τ sig) := (StableHlo.tcRefs τ sig).filter fun b => ¬ b.isScoped

theorem bufs_eq : bufs = Pipeline.arrRefs (τ := τ) spec0 ∪ args := by decide
theorem bufs_disjoint : Disjoint (Pipeline.arrRefs (τ := τ) spec0) args := by decide

theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) args W) := by
  unfold StableHlo.held; rw [bufs_eq, bigSep_union bufs_disjoint]; rfl

theorem held_list (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems : (Finset.univ.filter fun sm : SemLoc sig => ¬ sm.isScoped .tc) = {SemLoc.reg barS} := by decide

theorem unscopedSems_eq (c : Dev nD) : (unscopedSems0 c : sProp 𝕄) = semVal (barCell c) 0 := by
  unfold unscopedSems0
  rw [unscoped_sems, BI.bigSep_singleton]

/-! ## @main's two segments -/

/-- What rides beside the buffers up to the call. -/
def beside (c : Dev nD) : sProp 𝕄 :=
  iprop(dormant m c ∗ (∃ r, prngReg c r) ∗ ∃ W, owes (c : Thread nD τ) (O₀ c) W)

theorem host_sub : ∀ op ∈ (hostOps0 : List (HloOp τ sig (Elt F))), op.bufs ⊆ bufs := fun op h => by
  rw [List.mem_singleton] at h; subst h
  show ({Proc.devRef .tc main_arg0, Proc.devRef .tc main_arg1, Proc.devRef .tc main_v1} : Finset (DevRef τ sig)) ⊆ bufs
  decide

/-- The host operation. -/
def product : Pipeline.HostSeg (Name := ℕ) (U := UU) (pcfgs (F := F)) defs₀ 𝒱₀ L lv :=
  Pipeline.HostSeg.ofOps _ _ _ _ _ bufs hostOps0 host_sub (List.forall_iff_forall_mem.mp hostOps0_fresh) (V₀ m) (beside m)

theorem call_pre (c : Dev nD) : iprop(StableHlo.held (c : Thread nD τ) bufs (V₁ m c) ∗ beside m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) args (V₁ m c) ∗ emp) ∗ dormant m c ∗ ∃ Wd, owes (c : Thread nD τ) (0 + O₀ c) Wd)
  rw [held_split, zero_add]
  unfold beside
  iintro ⟨⟨Harr, Harg⟩, Hd, Hreg, HO⟩
  isplitl [Harr]; · iexact Harr
  isplitl [Hreg]; · iexact Hreg
  isplitl [Harg]
  · isplitl [Harg]; · iexact Harg
    iempintro
  isplitl [Hd] <;> iassumption

/-- What device `c` ends with. -/
abbrev ends (c : Dev nD) : sProp 𝕄 := iprop(StableHlo.held (c : Thread nD τ) bufs (V₂ m c) ∗ semVal (barCell c) 0)

theorem call_post (c : Dev nD) : (call m).post c
    ⊢ iprop(ends m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) args (V₂ m c) ∗ emp) ∗ semVal (barCell c) 0 ∗ ∃ Wd, owes (c : Thread nD τ) (0 : CellTallies nD τ sig Unit) Wd) ⊢ _
  dsimp only [ends]
  rw [held_split]
  iintro ⟨Harr, -, ⟨Harg, -⟩, Hb, HO⟩
  isplitr [HO]
  · isplitr [Hb]
    · isplitl [Harr] <;> iassumption
    iexact Hb
  iexact HO

def segments : List (Pipeline.Seg (pcfgs (F := F)) adm (pdats m) () defs₀ 𝒱₀ L lv) := [.host (product m), .region (call m)]

theorem main_eq (c : Dev nD) : main (F := F) c = Pipeline.Seg.run (segments m) := main_segs adm (pdats m) () 𝒱₀ L lv (product m) (call m) rfl c

/-! ## The semaphores and the duties at launch -/

theorem osem_inj : Function.Injective osem := by decide
theorem osem_ne_bar : ∀ k, osem k ≠ .reg barS := by decide
theorem recv_ne_bar (s : Fin 6) : SemLoc.dma (recvS s) ≠ (.reg barS : SemLoc sig) := by revert s; decide
theorem recv_inj : Function.Injective fun s : Fin 6 => (SemLoc.dma (recvS s) : SemLoc sig) := by decide

def barEmb : Dev nD ↪ GSem nD τ sig := ⟨barCell, fun _ _ h => congrArg (fun g : GSem nD τ sig => g.1.1) h⟩
def callEmb : Dev nD × (Fin 2 × Fin 6) ↪ GSem nD τ sig :=
  ⟨fun x => ((x.1 : Thread nD τ), osem x.2), fun _ _ h =>
    Prod.ext (congrArg (fun g : GSem nD τ sig => g.1.1) h) (osem_inj (congrArg Prod.snd h))⟩

abbrev barCells : Finset (GSem nD τ sig) := Finset.univ.map barEmb
abbrev callCells : Finset (GSem nD τ sig) := Finset.univ.map callEmb

theorem cells_disjoint : Disjoint (barCells : Finset (GSem nD τ sig)) callCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ callCells : Finset (GSem nD τ sig)) :=
  Finset.mem_union_left _ (Finset.mem_map_of_mem barEmb (Finset.mem_univ c))
theorem send_mem (c : Dev nD) (s : Fin 6) : sendCell c s ∈ (barCells ∪ callCells : Finset (GSem nD τ sig)) :=
  Finset.mem_union_right _ (Finset.mem_map_of_mem callEmb (Finset.mem_univ (c, ((0 : Fin 2), s))))
theorem recv_mem (c : Dev nD) (s : Fin 6) : recvCell c s ∈ (barCells ∪ callCells : Finset (GSem nD τ sig)) :=
  Finset.mem_union_right _ (Finset.mem_map_of_mem callEmb (Finset.mem_univ (c, ((1 : Fin 2), s))))

/-- The duties at one device's semaphores: two at the barrier, one at each of the call's. -/
abbrev duty : Bool ⊕ (Fin 2 × Fin 6) → SemLoc sig × Bool
  | .inl b => (.reg barS, b)
  | .inr k => (osem k, false)
theorem duty_inj : Function.Injective duty := by decide

def allDuties : Finset (GSem nD τ sig × ℕ × Bool) :=
  Finset.univ.map ⟨fun x : Dev nD × (Bool ⊕ (Fin 2 × Fin 6)) => (((x.1 : Thread nD τ), (duty x.2).1), 0, (duty x.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

/-- The tokens of the duties at device `c`'s semaphores; of the duties device `c` pays. -/
def duties (c : Dev nD) : sProp 𝕄 :=
  iprop(dutyTok ER (barCell c) 0 false ∗ dutyTok ER (barCell c) 0 true
    ∗ bigSep Finset.univ (fun s => dutyTok ER (sendCell c s) 0 false) ∗ bigSep Finset.univ (fun s => dutyTok ER (recvCell c s) 0 false))
def pays (c : Dev nD) : sProp 𝕄 :=
  iprop(dutyTok ER (barCell (nxt c)) 0 false ∗ dutyTok ER (barCell (prv c)) 0 true
    ∗ bigSep Finset.univ (fun s => dutyTok ER (sendCell c s) 0 false) ∗ bigSep Finset.univ (fun s => dutyTok ER (recvCell (nxt c) s) 0 false))

theorem bigSep_bool (Φ : Bool → sProp 𝕄) : bigSep Finset.univ Φ = iprop(Φ false ∗ Φ true) :=
  bigSep_univ_eq_bigSepL [false, true] (by decide) (by decide) Φ

theorem duties_eq : bigSep allDuties (fun x => (dutyTok ER x.1 x.2.1 x.2.2 : sProp 𝕄)) = bigSep Finset.univ fun c : Dev nD => duties c := by
  unfold allDuties; rw [bigSep_map, bigSep_univ_prod]
  refine bigSep_congr fun c _ => ?_
  rw [BI.bigSep_univ_sum, bigSep_bool, bigSep_univ_prod, BI.bigSep_fin_two]
  unfold duties
  exact BI.equiv_iff.mp ⟨BI.sep_assoc, BI.sep_assoc'⟩

/-- Each duty's token goes to the device that pays it. -/
theorem duties_around : (bigSep Finset.univ fun c : Dev nD => (duties c : sProp 𝕄)) ⊢ bigSep Finset.univ fun c : Dev nD => pays c := by
  unfold duties pays
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ (fun s => dutyTok ER (recvCell c s) 0 false) : sProp 𝕄))]
  exact BI.Entails.refl _

/-! ## The credit at launch -/

theorem recvCell_inj {c d : Dev nD} {s t : Fin 6} (h : recvCell c s = recvCell d t) : c = d ∧ s = t :=
  ⟨congrArg (fun g : GSem nD τ sig => g.1.1) h, recv_inj (congrArg Prod.snd h)⟩

theorem tally_bar (d c : Dev nD) : (tallyAt (barCell d) () 1 : CellTallies nD τ sig Unit) (barCell c) () = if c = d then 1 else 0 := by
  rw [tallyAt_apply]
  exact if_congr ⟨fun h => congrArg (fun g : GSem nD τ sig => g.1.1) h.1, fun h => ⟨congrArg barCell h, rfl⟩⟩ rfl rfl

theorem owed_bar (d c : Dev nD) : O₀ d (barCell c) () = (if d = prv c then 1 else 0) + if d = nxt c then 1 else 0 := by
  have h0 : owedFrom d 0 (barCell c) () = 0 := by
    by_contra h
    obtain ⟨t, -, ht⟩ := owedFrom_pos (Nat.pos_of_ne_zero h)
    exact recv_ne_bar t (congrArg Prod.snd ht).symm
  unfold O₀
  rw [Pi.add_apply, Finsupp.add_apply, Pi.add_apply, Finsupp.add_apply, h0, tally_bar, tally_bar, Nat.zero_add,
    if_congr (show c = nxt d ↔ d = prv c from ⟨fun h => by rw [h, prv_nxt], fun h => by rw [h, nxt_prv]⟩) rfl rfl,
    if_congr (show c = prv d ↔ d = nxt c from ⟨fun h => by rw [h, nxt_prv], fun h => by rw [h, prv_nxt]⟩) rfl rfl]

theorem owed_recv (d c : Dev nD) (s : Fin 6) : O₀ d (recvCell c s) () = if d = prv c then N else 0 := by
  have hb (e : Dev nD) : (tallyAt (barCell e) () 1 : CellTallies nD τ sig Unit) (recvCell c s) () = 0 := by
    by_contra h
    exact recv_ne_bar s (congrArg Prod.snd (tally_pos (Nat.pos_of_ne_zero h)))
  unfold O₀
  rw [Pi.add_apply, Finsupp.add_apply, Pi.add_apply, Finsupp.add_apply, hb, hb, Nat.add_zero]
  by_cases h : d = prv c
  · subst h
    unfold owedFrom
    rw [if_pos rfl, nxt_prv, Finset.sum_apply, Finsupp.finset_sum_apply, Finset.sum_eq_single s]
    · rw [tallyAt_apply, if_pos ⟨rfl, rfl⟩]
    · intro t _ ht
      rw [tallyAt_apply, if_neg fun e => ht (recvCell_inj e.1).2.symm]
    · intro e; exact absurd (Finset.mem_filter.mpr ⟨Finset.mem_univ s, Nat.zero_le s.val⟩) e
  · rw [if_neg h]
    by_contra hn
    obtain ⟨t, -, ht⟩ := owedFrom_pos (Nat.pos_of_ne_zero hn)
    exact h (by rw [(recvCell_inj ht).1, prv_nxt])

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem credit_recv (c : Dev nD) (s : Fin 6) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (prv c) fun _ => N, if_pos (Finset.mem_univ _)]

/-- The credit of device `c`'s waits. -/
def waits (c : Dev nD) : sProp 𝕄 :=
  iprop(cred (tallyAt (barCell c) () 2) ∗ bigSep Finset.univ (fun s => cred (tallyAt (recvCell c s) () N)))

theorem waits_intro (c : Dev nD) : (Pipeline.launchCred O₀ c : sProp 𝕄) ⊢ waits c := by
  unfold Pipeline.launchCred waits
  rw [bigSep_univ_at _ (SemLoc.reg barS), credit_bar]
  refine sep_mono_right ?_
  have sub : Finset.univ.image (fun s : Fin 6 => (SemLoc.dma (recvS s) : SemLoc sig)) ⊆ Finset.univ.erase (SemLoc.reg barS) := by decide
  refine BIBase.Entails.trans (BI.bigSep_subset sub) ?_
  rw [bigSep_image_of_injOn recv_inj.injOn]
  exact bigSep_mono fun s _ => by rw [credit_recv]; exact BI.Entails.refl _

/-! ## The launch -/

/-- What is put in place at launch: the staging buffers' semaphores, and the protocol's. -/
def u₀ : UU :=
  (initOf (Pipeline.cells (Pipeline.pin (pcfgs (F := F)) adm) cellOf_inj) (Pipeline.launchToks (Pipeline.pin (pcfgs (F := F)) adm) cellOf_inj),
    launchOf barCells callCells allDuties)

/-- A resource as a family over the devices: all of it on device `d`. -/
def allOn (d : Dev nD) (P : sProp 𝕄) (c : Dev nD) : sProp 𝕄 := if c = d then P else iprop(emp)
theorem bigSep_allOn (d : Dev nD) (P : sProp 𝕄) : bigSep Finset.univ (allOn d P) = P := by
  rw [bigSep_univ_at _ d, bigSep_congr (s := Finset.univ.erase d) (Ψ := fun _ => (BI.emp : sProp 𝕄))
      fun c hc => by unfold allOn; rw [if_neg (Finset.ne_of_mem_erase hc)]; rfl, BI.bigSep_emp_const]
  unfold allOn; rw [if_pos rfl]
  exact BI.equiv_iff.mp sep_emp

abbrev protocol : sProp 𝕄 := BI.own (ER (launchOf barCells callCells allDuties))

/-- What every device may consult: every invariant, and that every barrier semaphore is at its first round. -/
def records (κ : GSem nD τ sig → ℕ) : sProp 𝕄 :=
  iprop((bigSep (barCells ∪ callCells) fun g => cellInv ER (ringRd (part m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ callCells : Finset (GSem nD τ sig))) :
    records m κ ⊢ cellInv ER (ringRd (part m)) (κ g) g := by
  unfold records; iintro ⟨H, -⟩
  iapply (show _ ⊢ (cellInv ER (ringRd (part m)) (κ g) g : sProp 𝕄) from bigSep_elim (Φ := fun g => cellInv ER (ringRd (part m)) (κ g) g) hg); iexact H
theorem reached_at (κ : GSem nD τ sig → ℕ) (c : Dev nD) : records m κ ⊢ reached ER (barCell c) 0 := by
  unfold records; iintro ⟨-, H⟩
  iapply (show _ ⊢ (reached ER (barCell c) 0 : sProp 𝕄) from bigSep_elim (Φ := fun g => reached ER g 0) (Finset.mem_map_of_mem barEmb (Finset.mem_univ c))); iexact H

/-- Step `s`'s share of what device `c` alone holds. -/
def stepShare (c : Dev nD) (s : Fin 6) : sProp 𝕄 :=
  iprop((openTok ER (sendCell c s) ∗ openTok ER (recvCell c s)) ∗ (dutyTok ER (sendCell c s) 0 false ∗ dutyTok ER (recvCell (nxt c) s) 0 false)
    ∗ cred (tallyAt (recvCell c s) () N))

theorem step_dormant (κ : GSem nD τ sig → ℕ) (c : Dev nD) (s : Fin 6) :
    iprop(records m κ ∗ stepShare c s) ⊢ stepDormant (part m) κ c s := by
  unfold stepShare stepDormant stepInv
  iintro ⟨#HR, H⟩
  isplitr
  · isplitr; · iapply (inv_at m κ (send_mem c s)); iexact HR
    isplitr; · iapply (inv_at m κ (recv_mem c s)); iexact HR
    iapply (inv_at m κ (recv_mem (nxt c) s)); iexact HR
  iexact H

/-- What device `c` alone holds of the protocol: its place at its barrier semaphore, its rights at the call's semaphores,
    the duties it pays, the credit of its waits. -/
def holds (c : Dev nD) : sProp 𝕄 :=
  iprop(atPos ER (barCell c) 0 ∅ 0
    ∗ (bigSep Finset.univ (fun s => openTok ER (sendCell c s)) ∗ bigSep Finset.univ (fun s => openTok ER (recvCell c s)))
    ∗ pays c)

theorem dormant_intro (κ : GSem nD τ sig → ℕ) (c : Dev nD) : iprop(records m κ ∗ holds c ∗ waits c) ⊢ dormant m c := by
  unfold holds waits pays dormant barGhost
  iintro ⟨#HR, ⟨Hat, ⟨HoS, HoR⟩, HtN, HtP, HtS, HtR⟩, HcB, HcR⟩
  iexists κ
  isplitl [Hat HtN HtP HcB]
  · isplitr
    · isplitr; · iapply (inv_at m κ (bar_mem c)); iexact HR
      isplitr; · iapply (inv_at m κ (bar_mem (nxt c))); iexact HR
      iapply (inv_at m κ (bar_mem (prv c))); iexact HR
    isplitl [Hat]; · iexact Hat
    isplitl [HtN HtP]; · isplitl [HtN] <;> iassumption
    isplitr
    · isplitr; · iapply (reached_at m κ (nxt c)); iexact HR
      iapply (reached_at m κ (prv c)); iexact HR
    iexact HcB
  iapply (bigSep_with_persistent (R := records m κ) (Φ := fun s => stepShare c s) fun s _ => step_dormant m κ c s)
  isplitr; · iexact HR
  unfold stepShare
  rw [bigSep_sep', bigSep_sep', bigSep_sep', bigSep_sep']
  isplitl [HoS HoR]; · isplitl [HoS] <;> iassumption
  isplitl [HtS HtR]; · isplitl [HtS] <;> iassumption
  iexact HcR

/-- What device `c` starts with. -/
abbrev starts (c : Dev nD) : sProp 𝕄 := iprop(StableHlo.held (c : Thread nD τ) bufs (V₀ m c) ∗ beside m c)

/-- Of that, what is not the protocol's. -/
def rest (c : Dev nD) : sProp 𝕄 :=
  iprop(StableHlo.held (c : Thread nD τ) bufs (V₀ m c) ∗ waits c ∗ owes (c : Thread nD τ) (O₀ c) ∅ ∗ ∃ r, prngReg c r)

theorem starts_intro (κ : GSem nD τ sig → ℕ) (c : Dev nD) : iprop(records m κ ∗ (holds c ∗ rest m c)) ⊢ starts m c := by
  unfold rest starts beside
  iintro ⟨#HR, Hl, Hh, Hw, HO, Hp⟩
  isplitl [Hh]; · iexact Hh
  isplitl [Hl Hw]
  · iapply (dormant_intro m κ c)
    isplitr; · iexact HR
    isplitl [Hl] <;> iassumption
  isplitl [Hp]; · iexact Hp
  iexists ∅; iexact HO

theorem at_launch (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ allOn 0 protocol c)
      ⊢ (iprop(rest m c ∗ (semVal (barCell c) 0 ∗ allOn 0 protocol c)) : sProp 𝕄) := by
  rw [show unscopedBufs c (fun b => m ((c : Thread nD τ).loc b)) = StableHlo.held (c : Thread nD τ) bufs (V₀ m c) from unscoped_held c (V₀ m c),
    unscopedSems_eq]
  unfold rest
  iintro ⟨Hh, Hus, HO, Hcr, Hp, HG⟩
  ihave Hw := (waits_intro (F := F) c) $$ Hcr
  isplitl [Hh Hw HO Hp]
  · isplitl [Hh]; · iexact Hh
    isplitl [Hw]; · iexact Hw
    isplitl [HO]; · iexact HO
    iexists (ρ c); iexact Hp
  isplitl [Hus] <;> iassumption

theorem at_bars (Φ : GSem nD τ sig → sProp 𝕄) : bigSep barCells Φ = bigSep Finset.univ (fun c : Dev nD => Φ (barCell c)) :=
  bigSep_map (s := Finset.univ) barEmb (Φ := Φ)

theorem at_calls (Φ : GSem nD τ sig → sProp 𝕄) : bigSep callCells Φ
    = bigSep Finset.univ (fun c : Dev nD => iprop(bigSep Finset.univ (fun s => Φ (sendCell c s)) ∗ bigSep Finset.univ (fun s => Φ (recvCell c s)))) := by
  rw [bigSep_map, bigSep_univ_prod]
  refine bigSep_congr fun c _ => ?_
  rw [bigSep_univ_prod]
  exact BI.bigSep_fin_two _

theorem over_devices_pair {Φ Ψ : Dev nD → sProp 𝕄} : iprop(bigSep Finset.univ Φ ∗ bigSep Finset.univ Ψ) ⊢ bigSep Finset.univ (fun c => iprop(Φ c ∗ Ψ c)) := by
  rw [bigSep_sep']
theorem over_devices_unpair {Φ Ψ : Dev nD → sProp 𝕄} : bigSep Finset.univ (fun c => iprop(Φ c ∗ Ψ c)) ⊢ iprop(bigSep Finset.univ Φ ∗ bigSep Finset.univ Ψ) := by
  rw [bigSep_sep']

/-- The launch deals everything out. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ allOn 0 protocol c)) ∗ levAts L lv)
      ⊢ (|={Set.univ}=> bigSep Finset.univ (starts m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ allOn 0 protocol c))
      ⊢ (bigSep Finset.univ fun c : Dev nD => iprop(rest m c ∗ (semVal (barCell c) 0 ∗ allOn 0 protocol c)) : sProp 𝕄) from bigSep_mono fun c _ => at_launch m ρ c) $$ H
  ihave H2 := over_devices_unpair $$ H'; icases H2 with ⟨HB, H3⟩
  ihave H4 := over_devices_unpair $$ H3; icases H4 with ⟨Hv, HG⟩
  ihave Hu := (show bigSep Finset.univ (allOn (F := F) 0 protocol) ⊢ protocol from Entails.of_eq (bigSep_allOn (F := F) 0 protocol)) $$ HG
  imod (Rounds.fund_launch ER (ringRd (part m)) cells_disjoint (fun g _ h => h) allDuties) $$ [Hv Hu] with ⟨%κ, -, #Hinv, #Hr, Hat, Hopen, Htok⟩
  · isplitl [Hv]
    · iapply (Entails.of_eq (at_bars (F := F) (fun g => semVal g 0)).symm) $$ Hv
    · iexact Hu
  imodintro
  iapply (bigSep_with_persistent (R := records m κ) (Φ := fun c => iprop(holds c ∗ rest m c)) fun c _ => starts_intro m κ c)
  isplitr
  · unfold records
    isplitr; · iexact Hinv
    iexact Hr
  iapply over_devices_pair
  isplitr [HB]
  · unfold holds
    iapply over_devices_pair; isplitl [Hat]; · iapply (Entails.of_eq (at_bars (F := F) (fun g => atPos ER g 0 ∅ 0))) $$ Hat
    iapply over_devices_pair; isplitl [Hopen]; · iapply (Entails.of_eq (at_calls (F := F) (fun g => openTok ER g))) $$ Hopen
    iapply (duties_around (F := F))
    iapply (Entails.of_eq (duties_eq (F := F))) $$ Htok
  · iexact HB

/-! ## The run -/

theorem V₂_arg0 (c : Dev nD) : V₂ m c (Proc.devRef .tc main_arg0) = m ((c : Thread nD τ).loc main_arg0) :=
  (args_kept m c _ (by decide)).trans (V_main_arg0 m c)
theorem V₂_arg1 (c : Dev nD) : V₂ m c (Proc.devRef .tc main_arg1) = m ((c : Thread nD τ).loc main_arg1) :=
  (args_kept m c _ (by decide)).trans (V_main_arg1 m c)
theorem V₂_result (c : Dev nD) : V₂ m c (Proc.devRef .tc main_v2) = total m c := Function.update_self (Proc.devRef .tc main_v2) (total m c) (V₁ m c)

theorem unscoped_bar : ∀ sm : SemLoc sig, sm.isScoped .tc = false → sm = .reg barS := by decide

set_option backward.isDefEq.respectTransparency.types false in
/-- From any memory with the semaphores at zero, every fair execution of @main on the 32 devices terminates; in every final
    state each device's arguments are unchanged, its result is `total m c`, and every semaphore is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = total m c) ∧ r.2.sem = fun _ => 0) :=
  Pipeline.θ_run_regions_kit_sems (pcfgs (F := F)) adm (pdats m) () cellOf_inj EP defs₀ 𝒱₀ L lv m ρ main (segments m)
    (fun c Q => by rw [main_eq m c])
    (by simp only [segments, Pipeline.Seg.pipes_host, Pipeline.Seg.pipes_region, Pipeline.Seg.pipes_nil]; decide)
    (O₀ := O₀) (hL := L_of_ne) (G := allOn 0 protocol) (u₀ := u₀ (F := F))
    (hu₀ := by
      unfold u₀
      iintro Hu
      ihave H := (ownU_pair _ _) $$ Hu
      icases H with ⟨HP, HX⟩
      imodintro
      isplitl [HP]; · iexact HP
      rw [bigSep_allOn]; iexact HX)
    (T₀ := starts m) (Tₙ := ends m)
    (hch := ⟨fun c => .rfl, fun c => call_pre m c, fun c => call_post m c⟩)
    (hinit := deal m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2)
      ∧ s.sem (barCell c) = 0)
    (hfin := fun c s' => by
      dsimp only [ends]; rw [held_list]
      iintro ⟨⟨⟨Ha, Hb, -, Hy⟩, Hb0⟩, HSI⟩
      icombine HSI Ha gives %ha
      icombine HSI Hb gives %hb
      icombine HSI Hy gives %hy
      icombine HSI Hb0 gives %hz
      imodintro
      isplitr
      · ipureintro
        exact ⟨⟨Buf.eq_of_forall_mem_univ ha, Buf.eq_of_forall_mem_univ hb, Buf.eq_of_forall_mem_univ hy⟩, by simpa using hz⟩
      iexact HSI)
    (hQ := fun s h hs => ⟨fun c => by
        obtain ⟨⟨ha, hb, hy⟩, -⟩ := h c
        exact ⟨ha.trans (V₂_arg0 m c), hb.trans (V₂_arg1 m c), hy.trans (V₂_result m c)⟩,
      sem_eq_zero hs fun c sm hsm => by
        obtain rfl := unscoped_bar sm hsm
        exact (h c).2⟩)

/-- The run with the result's value left out. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_main m ρ)

end Cert.RingProof

end
-- ==== Proof.Equation.lean ====
/-
# The results are the whole product

At the real values packing loses nothing, so the six steps leave on every device, in every chunk, the sum of the ring's
four partial products. A partial product is the product over one quarter of the contracted axis, and a ring's four
devices hold the four quarters: the sum is the reference's product.
-/
module

public import proofs.«01_k».proof.Proof.Region
public import proofs.«01_k».proof.Proof.Gen.ReferenceIdeal.Run
public import Idealize.ShloMosaic.PureOps.Ideal.Laws
public import Idealize.ShloMosaic.Lib.Layout
public import Idealize.ShloMosaic.Lib.Pointwise.Contract

@[expose] public section

noncomputable section

namespace Cert.RingProof

open Cert.KernelIdeal Cert.KernelIdeal.Gen

open Idealize.ShloMosaic Idealize.ShloMosaic.TcCoe Idealize.SL.Sem

/-! ## One step -/

/-- The chunk a device updates is the one its predecessor sends. -/
theorem sent_ix (c : Dev nD) (s : Fin 6) : chunkIx (prv c) (sR s) = chunkIx c (rR s) := by revert c s; decide +kernel

/-- Different distances name different chunks. -/
theorem ix_ne (c : Dev nD) (r r' : Fin 5) (h : r.val % 4 ≠ r'.val % 4) : chunkIx c r ≠ chunkIx c r' := by
  revert c r r'; decide +kernel

/-- A chunk is one place further from the predecessor. -/
theorem ix_prv (c : Dev nD) (r r' : Fin 5) (h : r'.val % 4 = (r.val + 1) % 4) : chunkIx c r = chunkIx (prv c) r' := by
  revert c r r'; decide +kernel

/-- A step keeps every chunk but the one it updates. -/
theorem state_keep (X : Dev nD → Whole Ideal) (s : Fin 6) (c : Dev nD) (k : Fin 4) (h : k ≠ chunkIx c (rR s)) :
    state X (s.val + 1) c k = state X s.val c k := by
  rw [state_succ]; exact Function.update_of_ne h _ _

/-- In the first three steps the updated chunk gains the predecessor's. -/
theorem state_gain (X : Dev nD → Whole Ideal) (s : Fin 6) (hs : s.val < 3) (c : Dev nD) (k : Fin 4) (h : k = chunkIx c (rR s))
    (j : S512x2048.Idx) :
    state X (s.val + 1) c k j = (state X s.val c k j + state X s.val (prv c) k j : EReal) := by
  subst h
  rw [state_succ]
  unfold advance
  rw [Function.update_self]
  unfold newChunk sentOf
  rw [if_pos hs, sent_ix]
  rfl

/-- In the last three it becomes the predecessor's. -/
theorem state_take (X : Dev nD → Whole Ideal) (s : Fin 6) (hs : ¬ s.val < 3) (c : Dev nD) (k : Fin 4) (h : k = chunkIx c (rR s))
    (j : S512x2048.Idx) :
    state X (s.val + 1) c k j = state X s.val (prv c) k j := by
  subst h
  rw [state_succ]
  unfold advance
  rw [Function.update_self]
  unfold newChunk sentOf
  rw [if_neg hs, sent_ix]
  rfl

/-! ## Six steps -/

/-- The sum of an entry over a ring, from device `c` backwards. -/
def around (f : Dev nD → EReal) (c : Dev nD) : EReal := f c + (f (prv c) + (f (prv (prv c)) + f (prv (prv (prv c)))))

/-- Device `l` of device `c`'s ring. -/
def lane (c : Dev nD) (l : Fin 4) : Dev nD :=
  ⟨c.val - c.val % 4 + l.val, by have h : c.val < 32 := c.isLt; have := l.isLt; show _ < 32; omega⟩

theorem lane_self (c : Dev nD) : lane c ⟨c.val % 4, Nat.mod_lt _ (by decide)⟩ = c := by revert c; decide
theorem prv_lane (c : Dev nD) (l : Fin 4) : prv (lane c l) = lane c (l + 3) := by revert c l; decide +kernel

theorem around_eq (f : Dev nD → EReal) (c : Dev nD) : around f c = ∑ l : Fin 4, f (lane c l) := by
  have key : ∀ l : Fin 4, around f (lane c l) = ∑ l : Fin 4, f (lane c l) := by
    intro l
    unfold around
    rw [Fin.sum_univ_four]
    simp only [prv_lane]
    fin_cases l
    · show f (lane c 0) + (f (lane c 3) + (f (lane c 2) + f (lane c 1))) = _
      ac_rfl
    · show f (lane c 1) + (f (lane c 0) + (f (lane c 3) + f (lane c 2))) = _
      ac_rfl
    · show f (lane c 2) + (f (lane c 1) + (f (lane c 0) + f (lane c 3))) = _
      ac_rfl
    · show f (lane c 3) + (f (lane c 2) + (f (lane c 1) + f (lane c 0))) = _
      ac_rfl
  have h := key ⟨c.val % 4, Nat.mod_lt _ (by decide)⟩
  rwa [lane_self] at h

theorem around_prv (f : Dev nD → EReal) (c : Dev nD) : around f (prv c) = around f c := by
  rw [around_eq, around_eq]
  have h : lane (prv c) = lane c := by revert c; decide +kernel
  rw [h]

section
variable (X : Dev nD → Whole Ideal) (c : Dev nD) (j : S512x2048.Idx)

/-- After one step chunk `c + 3` holds two devices' sum. -/
theorem after1 : state X 1 c (chunkIx c 2) j = (chunkOf (X c) (chunkIx c 2) j + chunkOf (X (prv c)) (chunkIx c 2) j : EReal) :=
  state_gain X 0 (by decide) c _ rfl j

/-- After two, chunk `c + 2` three devices'. -/
theorem after2 : state X 2 c (chunkIx c 1) j
    = (chunkOf (X c) (chunkIx c 1) j + (chunkOf (X (prv c)) (chunkIx c 1) j + chunkOf (X (prv (prv c))) (chunkIx c 1) j) : EReal) := by
  have e := state_gain X 1 (by decide) c (chunkIx c 1) rfl j
  have k := state_keep X 0 c (chunkIx c 1) (ix_ne c _ _ (by decide))
  have h : chunkIx c 1 = chunkIx (prv c) 2 := ix_prv c _ _ (by decide)
  have p := after1 X (prv c) j
  rw [← h] at p
  refine e.trans ?_
  exact congrArg₂ (fun a b : EReal => a + b) (congrFun k j) p

/-- After three, chunk `c + 1` the ring's sum. -/
theorem after3 : state X 3 c (chunkIx c 0) j = around (fun d => chunkOf (X d) (chunkIx c 0) j) c := by
  have e := state_gain X 2 (by decide) c (chunkIx c 0) rfl j
  have k₀ := state_keep X 0 c (chunkIx c 0) (ix_ne c _ _ (by decide))
  have k₁ := state_keep X 1 c (chunkIx c 0) (ix_ne c _ _ (by decide))
  have h : chunkIx c 0 = chunkIx (prv c) 1 := ix_prv c _ _ (by decide)
  have p := after2 X (prv c) j
  rw [← h] at p
  refine e.trans ?_
  exact congrArg₂ (fun a b : EReal => a + b) (congrFun (k₁.trans k₀) j) p

/-- After four, so does the device's own chunk. -/
theorem after4 : state X 4 c (chunkIx c 3) j = around (fun d => chunkOf (X d) (chunkIx c 3) j) c := by
  have e := state_take X 3 (by decide) c (chunkIx c 3) rfl j
  have h : chunkIx c 3 = chunkIx (prv c) 0 := ix_prv c _ _ (by decide)
  have p := after3 X (prv c) j
  rw [← h, around_prv] at p
  exact e.trans p

/-- After five, chunk `c + 3`. -/
theorem after5 : state X 5 c (chunkIx c 2) j = around (fun d => chunkOf (X d) (chunkIx c 2) j) c := by
  have e := state_take X 4 (by decide) c (chunkIx c 2) rfl j
  have h : chunkIx c 2 = chunkIx (prv c) 3 := ix_prv c _ _ (by decide)
  have p := after4 X (prv c) j
  rw [← h, around_prv] at p
  exact e.trans p

/-- After six, chunk `c + 2`. -/
theorem after6 : state X 6 c (chunkIx c 1) j = around (fun d => chunkOf (X d) (chunkIx c 1) j) c := by
  have e := state_take X 5 (by decide) c (chunkIx c 1) rfl j
  have h : chunkIx c 1 = chunkIx (prv c) 2 := ix_prv c _ _ (by decide)
  have p := after5 X (prv c) j
  rw [← h, around_prv] at p
  exact e.trans p

/-- After the six steps every chunk is the ring's sum. -/
theorem state_end (k : Fin 4) : state X 6 c k j = around (fun d => chunkOf (X d) k j) c := by
  have cases4 : k = chunkIx c 0 ∨ k = chunkIx c 1 ∨ k = chunkIx c 2 ∨ k = chunkIx c 3 := by revert c k; decide +kernel
  rcases cases4 with rfl | rfl | rfl | rfl
  · have k₃ := state_keep X 3 c (chunkIx c 0) (ix_ne c _ _ (by decide))
    have k₄ := state_keep X 4 c (chunkIx c 0) (ix_ne c _ _ (by decide))
    have k₅ := state_keep X 5 c (chunkIx c 0) (ix_ne c _ _ (by decide))
    exact (congrFun (k₅.trans (k₄.trans k₃)) j).trans (after3 X c j)
  · exact after6 X c j
  · have k₅ := state_keep X 5 c (chunkIx c 2) (ix_ne c _ _ (by decide))
    exact (congrFun k₅ j).trans (after5 X c j)
  · have k₄ := state_keep X 4 c (chunkIx c 3) (ix_ne c _ _ (by decide))
    have k₅ := state_keep X 5 c (chunkIx c 3) (ix_ne c _ _ (by decide))
    exact (congrFun (k₅.trans k₄) j).trans (after4 X c j)

/-- The contents that the six steps leave: the sum over the ring's devices. -/
theorem glue_end : glue (state X 6 c) = fun i => ∑ l : Fin 4, X (lane c l) i := by
  refine whole_ext fun k => ?_
  rw [chunkOf_glue]
  funext j
  rw [state_end, around_eq]
  rfl
end

/-! ## The products -/

/-- The kernel's product at an entry. -/
theorem dot_block (A B : S2048x8192.Idx → EReal) (i : S2048x2048.Idx) :
    (Host.dotGeneral (F := Ideal) (φ₁ := .bf16) (φ₂ := .bf16) dot_S2048x8192_S2048x8192_S2048x2048_1_1_0_0_n_n none A B i : EReal)
      = ∑ k : Fin 8192, A (Shape.pair (d := ![2048, 8192]) (i 0) k) * B (Shape.pair (d := ![2048, 8192]) (i 1) k) := by
  simp only [Host.dotGeneral]
  rw [Ideal.dotGeneral_apply,
    DotDims.sum_contr₁ dot_S2048x8192_S2048x8192_S2048x2048_1_1_0_0_n_n (a := 1) rfl (K := 8192) rfl]
  refine Finset.sum_congr rfl fun k _ => ?_
  refine congrArg₂ (fun a b : EReal => a * b) (congrArg A ?_) (congrArg B ?_) <;>
    (funext a; fin_cases a <;> rfl)

open Cert.ReferenceIdeal (S2048x32768 S32768x2048 dot_S2048x32768_S32768x2048_S2048x2048_1_0_0_1_n_n) in
/-- The reference's at one. -/
theorem dot_whole (A B : S2048x32768.Idx → EReal) (h : S2048x32768.Transposes [1, 0] S32768x2048) (i : S2048x2048.Idx) :
    (Host.dotGeneral (F := Ideal) (φ₁ := .bf16) (φ₂ := .bf16) dot_S2048x32768_S32768x2048_S2048x2048_1_0_0_1_n_n none A
        (transpose S32768x2048 [1, 0] B h) i : EReal)
      = ∑ k : Fin 32768, A (Shape.pair (d := ![2048, 32768]) (i 0) k) * B (Shape.pair (d := ![2048, 32768]) (i 1) k) := by
  simp only [Host.dotGeneral]
  rw [Ideal.dotGeneral_apply,
    DotDims.sum_contr₁ dot_S2048x32768_S32768x2048_S2048x2048_1_0_0_1_n_n (a := 1) rfl (K := 32768) rfl]
  refine Finset.sum_congr rfl fun k _ => ?_
  refine congrArg₂ (fun a b : EReal => a * b) (congrArg A ?_) (congrArg B ?_) <;>
    (funext a; fin_cases a <;> rfl)

/-- Narrowing and widening back changes nothing. -/
theorem widen_narrow (v : FVec Ideal S2048x2048 .f32) (h h' : FTy.bf16.bits < FTy.f32.bits) :
    extf .f32 (truncf .bf16 v h) h' = v := rfl

/-- A sum over the contracted axis, by quarters. -/
theorem sum_quarters (f : Fin 32768 → EReal) :
    ∑ k : Fin 32768, f k = ∑ l : Fin 4, ∑ k : Fin 8192, f ⟨8192 * l.val + k.val, by have := l.isLt; have := k.isLt; omega⟩ := by
  rw [← Fintype.sum_prod_type' (f := fun (l : Fin 4) (k : Fin 8192) =>
    f ⟨8192 * l.val + k.val, by have := l.isLt; have := k.isLt; omega⟩)]
  refine (Fintype.sum_equiv (finProdFinEquiv (m := 4) (n := 8192)) _ f fun x => congrArg f (Fin.ext ?_)).symm
  show 8192 * x.1.val + x.2.val = x.2.val + 8192 * x.1.val
  exact Nat.add_comm _ _

variable (m : (ℓ : Loc nD τ sig) → Buf (Elt Ideal) ℓ)

/-- A device's two blocks of the arguments. -/
def lhsOf (c : Dev nD) : S2048x8192.Idx → EReal := m ((c : Thread nD τ).loc main_arg0)
def rhsOf (c : Dev nD) : S2048x8192.Idx → EReal := m ((c : Thread nD τ).loc main_arg1)

/-- A device's partial product is the host's product of its blocks. -/
theorem part_eq (c : Dev nD) : part m c
    = Host.dotGeneral (F := Ideal) (φ₁ := .bf16) (φ₂ := .bf16) dot_S2048x8192_S2048x8192_S2048x2048_1_1_0_0_n_n none
        (lhsOf m c) (rhsOf m c) := by
  show StableHlo.after hostOps0 (V₀ m c) (Proc.devRef .tc main_v1) = _
  unfold hostOps0
  rw [StableHlo.after_cons, StableHlo.after_nil, StableHlo.binary_result]
  rfl

/-- The place of a device in its ring is the quarter it holds. -/
theorem quarter (c : Dev nD) (l : Fin 4) : ((Layout.meshBlock [2, 4, 4] ![[], [2]] (lane c l)) (1 : Fin 2)).val = l.val := by
  revert c l; decide +kernel

theorem quarter_row (c : Dev nD) : ((Layout.meshBlock [2, 4, 4] ![[], [2]] c) (0 : Fin 2)).val = 0 := rfl

/-- A block's entry is the whole array's. -/
theorem block_entry (A : (⟨2, ![2048, 32768]⟩ : Shape).Idx → EReal) (c : Dev nD) (l : Fin 4) (r : Fin 2048) (k : Fin 8192) :
    (Layout.blockN ⟨2, ![2048, 8192]⟩ ⟨2, ![2048, 32768]⟩ (Layout.meshBlock [2, 4, 4] ![[], [2]] (lane c l)) A)
        (Shape.pair (d := ![2048, 8192]) r k)
      = A (Shape.pair (d := ![2048, 32768]) r (⟨8192 * l.val + k.val, by have := l.isLt; have := k.isLt; omega⟩ : Fin 32768)) := by
  refine congrArg A ?_
  funext a
  refine Fin.ext ?_
  fin_cases a
  · show 0 * 2048 + r.val = r.val
    omega
  · show ((Layout.meshBlock [2, 4, 4] ![[], [2]] (lane c l)) (1 : Fin 2)).val * 8192 + k.val = 8192 * l.val + k.val
    rw [quarter, Nat.mul_comm]

/-- When every device holds its quarters of two arrays, every result is the arrays' product over the whole axis. -/
theorem total_apply (A B : (⟨2, ![2048, 32768]⟩ : Shape).Idx → EReal)
    (hA : ∀ c : Dev nD, lhsOf m c = Layout.blockN ⟨2, ![2048, 8192]⟩ ⟨2, ![2048, 32768]⟩ (Layout.meshBlock [2, 4, 4] ![[], [2]] c) A)
    (hB : ∀ c : Dev nD, rhsOf m c = Layout.blockN ⟨2, ![2048, 8192]⟩ ⟨2, ![2048, 32768]⟩ (Layout.meshBlock [2, 4, 4] ![[], [2]] c) B)
    (c : Dev nD) (i : S2048x2048.Idx) : (total m c i : EReal)
      = ∑ k : Fin 32768, A (Shape.pair (d := ![2048, 32768]) (i 0) k) * B (Shape.pair (d := ![2048, 32768]) (i 1) k) := by
  unfold total
  rw [glue_end, sum_quarters]
  refine Finset.sum_congr rfl fun l _ => ?_
  rw [part_eq]
  refine (dot_block _ _ i).trans (Finset.sum_congr rfl fun k _ => ?_)
  rw [hA, hB]
  exact congrArg₂ (fun a b : EReal => a * b) (block_entry A c l (i 0) k) (block_entry B c l (i 1) k)

end Cert.RingProof

end
-- ==== Proof.lean ====
/-
# The certificate's claim

The kernel and the kernel over the real values are one text, so one run, proved for any values, serves both frames. The
reference's run is its four operations. The claim of equality reads every device's result, and the reference's, as one
sum over the contracted axis.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation

@[expose] public section

noncomputable section

namespace Cert.Proof

open Idealize.ShloMosaic Idealize.SL.Sem

/-- The two kernels' bodies are one. -/
theorem same_bodies : Cert.Kernel.defs₀ (F := Bits) = Cert.KernelIdeal.defs₀ (F := Bits) := by
  unfold Cert.Kernel.defs₀ Cert.KernelIdeal.defs₀
  refine congrArg Defs.onTc (funext fun x => ?_)
  funext a
  match x, a with
  | 0, (t, s) => rfl
  | ⟨_ + 1, h⟩, _ => exact absurd h (Nat.not_lt.2 (Nat.le_add_left _ _))

theorem same_defs : Cert.Kernel.defs (F := Bits) = Cert.KernelIdeal.defs (F := Bits) :=
  congrArg (Pipeline.defs _) same_bodies

theorem frame_kernel : Cert.quiescent_Kernel := by
  intro m ρ _
  have h := Cert.RingProof.run_frame (F := Bits) m ρ
  rw [← same_defs] at h
  exact h

theorem frame_kernelIdeal : Cert.quiescent_KernelIdeal := fun m ρ _ => Cert.RingProof.run_frame (F := Ideal) m ρ

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

theorem equal_results : Cert.algebraic_KernelIdeal_ReferenceIdeal := by
  intro m g m' g' _ hm
  have run := Cert.ReferenceIdeal.Value.run (F := Ideal) m' g'
  refine ⟨_, ?_, (θ_run Cert.ReferenceIdeal.defs _ _).mono (fun r h => h 0) run⟩
  refine (θ_run Cert.KernelIdeal.defs _ _).mono (fun r h c => ?_) (Cert.RingProof.run_main (F := Ideal) (m := m) (ρ := g))
  obtain ⟨h0, h1, h2⟩ := h.1 c
  refine ⟨h2.trans ?_, h0, h1⟩
  rw [Cert.RingProof.widen_narrow]
  funext i
  refine (Cert.RingProof.total_apply m _ _ (fun d => (hm d).1) (fun d => (hm d).2) c i).trans ?_
  exact (Cert.RingProof.dot_whole _ _ _ i).symm

theorem claim : Cert.Claim :=
  ⟨Cert.Kernel.Gen.facts, Cert.KernelIdeal.Gen.facts, Cert.ReferenceIdeal.Gen.facts,
    frame_kernel, frame_kernelIdeal, frame_reference, trivial, equal_results⟩

end Cert.Proof

end
